-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![2048, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x2048 : Shape := ⟨2, ![256, 2048]⟩
abbrev S2048x256 : Shape := ⟨2, ![2048, 256]⟩
abbrev S2048x2048 : Shape := ⟨2, ![2048, 2048]⟩
abbrev S12 : Shape := ⟨1, ![12]⟩
abbrev S1 : Shape := ⟨1, ![1]⟩
abbrev S_ : Shape := ⟨0, ![]⟩
abbrev S64x2048 : Shape := ⟨2, ![64, 2048]⟩
abbrev S256x256 : Shape := ⟨2, ![256, 256]⟩
abbrev S64x256 : Shape := ⟨2, ![64, 256]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x256, .bf16⟩
  | .hbm, ⟨2, _⟩ => ⟨S2048x256, .f32⟩
  | .local _ .vmem, ⟨0, _⟩ => ⟨S256x2048, .bf16⟩
  | .local _ .vmem, ⟨1, _⟩ => ⟨S2048x256, .bf16⟩
  | .local _ .vmem, ⟨2, _⟩ => ⟨S2048x256, .f32⟩
  | .local _ .vmem, ⟨3, _⟩ => ⟨S2048x2048, .bf16⟩
  | .local _ .vmem, ⟨4, _⟩ => ⟨S2048x256, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  (ofTc nBuf bufTy 1 53 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_16 : BitVec 32 := 1#32
  let v33 : BitVec 32 := Scalar.muli v15 c1_i32_16
  let v34 : BitVec 32 := Scalar.addi c0_i32_17 v33
  v34.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_19 : BitVec 32 := 1#32
  let v35 : BitVec 32 := Scalar.muli v10 c1_i32_19
  let v36 : BitVec 32 := Scalar.addi c0_i32_20 v35
  v36.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v16 : BitVec 32 := Scalar.remsi v5 c2_i32
  let c0_i32 : BitVec 32 := 0#32
  let v17 : BitVec 1 := Scalar.cmpi .eq v16 c0_i32
  let c3_i32 : BitVec 32 := 3#32
  let v18 : BitVec 32 := Scalar.addi v5 c3_i32
  let c5_i32 : BitVec 32 := 5#32
  let v19 : BitVec 32 := Scalar.addi v5 c5_i32
  let v20 : BitVec 32 := Scalar.select v17 v18 v19
  let c8_i32_7 : BitVec 32 := 8#32
  let v21 : BitVec 32 := Scalar.remsi v20 c8_i32_7
  let c4_i32_8 : BitVec 32 := 4#32
  let v22 : BitVec 1 := Scalar.cmpi .slt v21 c4_i32_8
  let c11_i32_9 : BitVec 32 := 11#32
  let v23 : BitVec 32 := Scalar.subi c11_i32_9 v21
  let v24 : BitVec 32 := Scalar.select v22 v21 v23
  let c1_i32_22 : BitVec 32 := 1#32
  let v37 : BitVec 32 := Scalar.muli v24 c1_i32_22
  let v38 : BitVec 32 := Scalar.addi c0_i32_23 v37
  v38.toNat
def k0_off1 (d0 : Dev nD) (c0_i32_26 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v39 : BitVec 32 := Scalar.muli v2 c256_i32
  let v42 : BitVec 32 := Scalar.addi v39 c0_i32_26
  let v43 : Index := Scalar.indexCast v42
  let c0_27 : Index := 0#32
  ![v43.toNat, 0]
def k0_off2 (d0 : Dev nD) (c0_i32_28 : BitVec 32) (c0_i32_34 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v47 : BitVec 32 := Scalar.subi v5 c0_i32_28
  let c8_i32_29 : BitVec 32 := 8#32
  let v48 : BitVec 32 := Scalar.addi v47 c8_i32_29
  let c8_i32_30 : BitVec 32 := 8#32
  let v49 : BitVec 32 := Scalar.remsi v48 c8_i32_30
  let c4_i32_31 : BitVec 32 := 4#32
  let v50 : BitVec 1 := Scalar.cmpi .slt v49 c4_i32_31
  let c11_i32_32 : BitVec 32 := 11#32
  let v51 : BitVec 32 := Scalar.subi c11_i32_32 v49
  let v52 : BitVec 32 := Scalar.select v50 v49 v51
  let c256_i32_33 : BitVec 32 := 256#32
  let v53 : BitVec 32 := Scalar.muli v52 c256_i32_33
  let v54 : BitVec 32 := Scalar.addi v53 c0_i32_34
  let c0_i32_39 : BitVec 32 := 0#32
  ![v54.toNat, 0]
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_37 : BitVec 32 := 1#32
  let v55 : BitVec 32 := Scalar.muli v10 c1_i32_37
  let v56 : BitVec 32 := Scalar.addi c0_i32_38 v55
  v56.toNat
def k0_off3 (d0 : Dev nD) (c0_i32_41 : BitVec 32) (c0_i32_46 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v63 : BitVec 32 := Scalar.addi v5 c0_i32_41
  let c8_i32_42 : BitVec 32 := 8#32
  let v64 : BitVec 32 := Scalar.remsi v63 c8_i32_42
  let c4_i32_43 : BitVec 32 := 4#32
  let v65 : BitVec 1 := Scalar.cmpi .slt v64 c4_i32_43
  let c11_i32_44 : BitVec 32 := 11#32
  let v66 : BitVec 32 := Scalar.subi c11_i32_44 v64
  let v67 : BitVec 32 := Scalar.select v65 v64 v66
  let c256_i32_45 : BitVec 32 := 256#32
  let v68 : BitVec 32 := Scalar.muli v67 c256_i32_45
  let v69 : BitVec 32 := Scalar.addi v68 c0_i32_46
  let c0_i32_51 : BitVec 32 := 0#32
  ![v69.toNat, 0]
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_49 : BitVec 32 := 1#32
  let v70 : BitVec 32 := Scalar.muli v15 c1_i32_49
  let v71 : BitVec 32 := Scalar.addi c0_i32_50 v70
  v71.toNat
def k0_dev6 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_64 : BitVec 32 := 1#32
  let v93 : BitVec 32 := Scalar.muli v10 c1_i32_64
  let v94 : BitVec 32 := Scalar.addi c0_i32_65 v93
  v94.toNat
def k0_dev7 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_76 : BitVec 32 := 1#32
  let v108 : BitVec 32 := Scalar.muli v15 c1_i32_76
  let v109 : BitVec 32 := Scalar.addi c0_i32_77 v108
  v109.toNat
def k0_dev8 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_91 : BitVec 32 := 1#32
  let v131 : BitVec 32 := Scalar.muli v10 c1_i32_91
  let v132 : BitVec 32 := Scalar.addi c0_i32_92 v131
  v132.toNat
def k0_dev9 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_103 : BitVec 32 := 1#32
  let v146 : BitVec 32 := Scalar.muli v15 c1_i32_103
  let v147 : BitVec 32 := Scalar.addi c0_i32_104 v146
  v147.toNat
def k0_dev10 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_118 : BitVec 32 := 1#32
  let v169 : BitVec 32 := Scalar.muli v10 c1_i32_118
  let v170 : BitVec 32 := Scalar.addi c0_i32_119 v169
  v170.toNat
def k0_dev11 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_130 : BitVec 32 := 1#32
  let v184 : BitVec 32 := Scalar.muli v15 c1_i32_130
  let v185 : BitVec 32 := Scalar.addi c0_i32_131 v184
  v185.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v39 : BitVec 32 := Scalar.muli v2 c256_i32
  let v197 : Index := Scalar.indexCast v39
  let c0_138 : Index := 0#32
  ![v197.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v39 : BitVec 32 := Scalar.muli v2 c256_i32
  let v203 : Index := Scalar.indexCast v39
  let c0_142 : Index := 0#32
  ![v203.toNat, 0]
def k0_dev12 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_158 : BitVec 32 := 1#32
  let v219 : BitVec 32 := Scalar.muli v10 c1_i32_158
  let v220 : BitVec 32 := Scalar.addi c0_i32_159 v219
  v220.toNat
def k0_dev13 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_176 : BitVec 32 := 1#32
  let v240 : BitVec 32 := Scalar.muli v15 c1_i32_176
  let v241 : BitVec 32 := Scalar.addi c0_i32_177 v240
  v241.toNat
def k0_dev14 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_195 : BitVec 32 := 1#32
  let v262 : BitVec 32 := Scalar.muli v10 c1_i32_195
  let v263 : BitVec 32 := Scalar.addi c0_i32_196 v262
  v263.toNat
def k0_dev15 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_213 : BitVec 32 := 1#32
  let v283 : BitVec 32 := Scalar.muli v15 c1_i32_213
  let v284 : BitVec 32 := Scalar.addi c0_i32_214 v283
  v284.toNat
def k0_dev16 (d0 : Dev nD) : Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_231 : BitVec 32 := 1#32
  let v305 : BitVec 32 := Scalar.muli v10 c1_i32_231
  let v306 : BitVec 32 := Scalar.addi c0_i32_232 v305
  v306.toNat
def k0_dev17 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_249 : BitVec 32 := 1#32
  let v326 : BitVec 32 := Scalar.muli v15 c1_i32_249
  let v327 : BitVec 32 := Scalar.addi c0_i32_250 v326
  v327.toNat
def k0_dev18 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_268 : BitVec 32 := 1#32
  let v348 : BitVec 32 := Scalar.muli v10 c1_i32_268
  let v349 : BitVec 32 := Scalar.addi c0_i32_269 v348
  v349.toNat
def k0_dev19 (d0 : Dev nD) : Nat :=
  let c0_i32_287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_286 : BitVec 32 := 1#32
  let v369 : BitVec 32 := Scalar.muli v15 c1_i32_286
  let v370 : BitVec 32 := Scalar.addi c0_i32_287 v369
  v370.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v16 : BitVec 32 := Scalar.remsi v5 c2_i32
  let c0_i32 : BitVec 32 := 0#32
  let v17 : BitVec 1 := Scalar.cmpi .eq v16 c0_i32
  let c7_i32_10 : BitVec 32 := 7#32
  let v25 : BitVec 32 := Scalar.addi v5 c7_i32_10
  let c1_i32_11 : BitVec 32 := 1#32
  let v26 : BitVec 32 := Scalar.addi v5 c1_i32_11
  let v27 : BitVec 32 := Scalar.select v17 v25 v26
  let c8_i32_12 : BitVec 32 := 8#32
  let v28 : BitVec 32 := Scalar.remsi v27 c8_i32_12
  let c4_i32_13 : BitVec 32 := 4#32
  let v29 : BitVec 1 := Scalar.cmpi .slt v28 c4_i32_13
  let c11_i32_14 : BitVec 32 := 11#32
  let v30 : BitVec 32 := Scalar.subi c11_i32_14 v28
  let v31 : BitVec 32 := Scalar.select v29 v28 v30
  let c256_i32_290 : BitVec 32 := 256#32
  let v377 : BitVec 32 := Scalar.muli v31 c256_i32_290
  let c0_i32_295 : BitVec 32 := 0#32
  ![v377.toNat, 0]
def k0_dev20 (d0 : Dev nD) : Nat :=
  let c0_i32_294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v16 : BitVec 32 := Scalar.remsi v5 c2_i32
  let c0_i32 : BitVec 32 := 0#32
  let v17 : BitVec 1 := Scalar.cmpi .eq v16 c0_i32
  let c3_i32 : BitVec 32 := 3#32
  let v18 : BitVec 32 := Scalar.addi v5 c3_i32
  let c5_i32 : BitVec 32 := 5#32
  let v19 : BitVec 32 := Scalar.addi v5 c5_i32
  let v20 : BitVec 32 := Scalar.select v17 v18 v19
  let c8_i32_7 : BitVec 32 := 8#32
  let v21 : BitVec 32 := Scalar.remsi v20 c8_i32_7
  let c4_i32_8 : BitVec 32 := 4#32
  let v22 : BitVec 1 := Scalar.cmpi .slt v21 c4_i32_8
  let c11_i32_9 : BitVec 32 := 11#32
  let v23 : BitVec 32 := Scalar.subi c11_i32_9 v21
  let v24 : BitVec 32 := Scalar.select v22 v21 v23
  let c1_i32_293 : BitVec 32 := 1#32
  let v378 : BitVec 32 := Scalar.muli v24 c1_i32_293
  let v379 : BitVec 32 := Scalar.addi c0_i32_294 v378
  v379.toNat
def k0_off7 (d0 : Dev nD) (c0_i32_298 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32_297 : BitVec 32 := 7#32
  let v386 : BitVec 32 := Scalar.addi v5 c7_i32_297
  let v387 : BitVec 32 := Scalar.subi v386 c0_i32_298
  let c8_i32_299 : BitVec 32 := 8#32
  let v388 : BitVec 32 := Scalar.remsi v387 c8_i32_299
  let c4_i32_300 : BitVec 32 := 4#32
  let v389 : BitVec 1 := Scalar.cmpi .slt v388 c4_i32_300
  let c11_i32_301 : BitVec 32 := 11#32
  let v390 : BitVec 32 := Scalar.subi c11_i32_301 v388
  let v391 : BitVec 32 := Scalar.select v389 v388 v390
  let c256_i32_302 : BitVec 32 := 256#32
  let v392 : BitVec 32 := Scalar.muli v391 c256_i32_302
  let v393 : Index := Scalar.indexCast v392
  let c0_303 : Index := 0#32
  ![v393.toNat, 0]
def k0_off8 (d0 : Dev nD) (c0_i32_298 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32_297 : BitVec 32 := 7#32
  let v386 : BitVec 32 := Scalar.addi v5 c7_i32_297
  let v387 : BitVec 32 := Scalar.subi v386 c0_i32_298
  let c8_i32_299 : BitVec 32 := 8#32
  let v388 : BitVec 32 := Scalar.remsi v387 c8_i32_299
  let c4_i32_300 : BitVec 32 := 4#32
  let v389 : BitVec 1 := Scalar.cmpi .slt v388 c4_i32_300
  let c11_i32_301 : BitVec 32 := 11#32
  let v390 : BitVec 32 := Scalar.subi c11_i32_301 v388
  let v391 : BitVec 32 := Scalar.select v389 v388 v390
  let c256_i32_302 : BitVec 32 := 256#32
  let v392 : BitVec 32 := Scalar.muli v391 c256_i32_302
  let v399 : Index := Scalar.indexCast v392
  let c0_308 : Index := 0#32
  ![v399.toNat, 0]
def k0_off9 (d0 : Dev nD) (c0_i32_310 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_309 : BitVec 32 := 1#32
  let v401 : BitVec 32 := Scalar.addi v5 c1_i32_309
  let v402 : BitVec 32 := Scalar.addi v401 c0_i32_310
  let c8_i32_311 : BitVec 32 := 8#32
  let v403 : BitVec 32 := Scalar.remsi v402 c8_i32_311
  let c4_i32_312 : BitVec 32 := 4#32
  let v404 : BitVec 1 := Scalar.cmpi .slt v403 c4_i32_312
  let c11_i32_313 : BitVec 32 := 11#32
  let v405 : BitVec 32 := Scalar.subi c11_i32_313 v403
  let v406 : BitVec 32 := Scalar.select v404 v403 v405
  let c256_i32_314 : BitVec 32 := 256#32
  let v407 : BitVec 32 := Scalar.muli v406 c256_i32_314
  let v408 : Index := Scalar.indexCast v407
  let c0_315 : Index := 0#32
  ![v408.toNat, 0]
def k0_off10 (d0 : Dev nD) (c0_i32_310 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_309 : BitVec 32 := 1#32
  let v401 : BitVec 32 := Scalar.addi v5 c1_i32_309
  let v402 : BitVec 32 := Scalar.addi v401 c0_i32_310
  let c8_i32_311 : BitVec 32 := 8#32
  let v403 : BitVec 32 := Scalar.remsi v402 c8_i32_311
  let c4_i32_312 : BitVec 32 := 4#32
  let v404 : BitVec 1 := Scalar.cmpi .slt v403 c4_i32_312
  let c11_i32_313 : BitVec 32 := 11#32
  let v405 : BitVec 32 := Scalar.subi c11_i32_313 v403
  let v406 : BitVec 32 := Scalar.select v404 v403 v405
  let c256_i32_314 : BitVec 32 := 256#32
  let v407 : BitVec 32 := Scalar.muli v406 c256_i32_314
  let v414 : Index := Scalar.indexCast v407
  let c0_320 : Index := 0#32
  ![v414.toNat, 0]
def k0_dev21 (d0 : Dev nD) : Nat :=
  let c0_i32_337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_336 : BitVec 32 := 1#32
  let v430 : BitVec 32 := Scalar.muli v10 c1_i32_336
  let v431 : BitVec 32 := Scalar.addi c0_i32_337 v430
  v431.toNat
def k0_dev22 (d0 : Dev nD) : Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_354 : BitVec 32 := 1#32
  let v451 : BitVec 32 := Scalar.muli v15 c1_i32_354
  let v452 : BitVec 32 := Scalar.addi c0_i32_355 v451
  v452.toNat
def k0_dev23 (d0 : Dev nD) : Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_372 : BitVec 32 := 1#32
  let v473 : BitVec 32 := Scalar.muli v10 c1_i32_372
  let v474 : BitVec 32 := Scalar.addi c0_i32_373 v473
  v474.toNat
def k0_dev24 (d0 : Dev nD) : Nat :=
  let c0_i32_391 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_390 : BitVec 32 := 1#32
  let v494 : BitVec 32 := Scalar.muli v15 c1_i32_390
  let v495 : BitVec 32 := Scalar.addi c0_i32_391 v494
  v495.toNat
def k0_dev25 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_408 : BitVec 32 := 1#32
  let v516 : BitVec 32 := Scalar.muli v10 c1_i32_408
  let v517 : BitVec 32 := Scalar.addi c0_i32_409 v516
  v517.toNat
def k0_dev26 (d0 : Dev nD) : Nat :=
  let c0_i32_427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_426 : BitVec 32 := 1#32
  let v537 : BitVec 32 := Scalar.muli v15 c1_i32_426
  let v538 : BitVec 32 := Scalar.addi c0_i32_427 v537
  v538.toNat
def k0_dev27 (d0 : Dev nD) : Nat :=
  let c0_i32_446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_445 : BitVec 32 := 1#32
  let v559 : BitVec 32 := Scalar.muli v10 c1_i32_445
  let v560 : BitVec 32 := Scalar.addi c0_i32_446 v559
  v560.toNat
def k0_dev28 (d0 : Dev nD) : Nat :=
  let c0_i32_464 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_463 : BitVec 32 := 1#32
  let v580 : BitVec 32 := Scalar.muli v15 c1_i32_463
  let v581 : BitVec 32 := Scalar.addi c0_i32_464 v580
  v581.toNat
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_497 : BitVec 32 := 4#32
  let v624 : BitVec 32 := Scalar.addi v5 c4_i32_497
  let c8_i32_498 : BitVec 32 := 8#32
  let v625 : BitVec 32 := Scalar.remsi v624 c8_i32_498
  let c4_i32_499 : BitVec 32 := 4#32
  let v626 : BitVec 1 := Scalar.cmpi .slt v625 c4_i32_499
  let c11_i32_500 : BitVec 32 := 11#32
  let v627 : BitVec 32 := Scalar.subi c11_i32_500 v625
  let v628 : BitVec 32 := Scalar.select v626 v625 v627
  let c256_i32_501 : BitVec 32 := 256#32
  let v629 : BitVec 32 := Scalar.muli v628 c256_i32_501
  let v630 : Index := Scalar.indexCast v629
  let c0_502 : Index := 0#32
  ![v630.toNat, 0]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_497 : BitVec 32 := 4#32
  let v624 : BitVec 32 := Scalar.addi v5 c4_i32_497
  let c8_i32_498 : BitVec 32 := 8#32
  let v625 : BitVec 32 := Scalar.remsi v624 c8_i32_498
  let c4_i32_499 : BitVec 32 := 4#32
  let v626 : BitVec 1 := Scalar.cmpi .slt v625 c4_i32_499
  let c11_i32_500 : BitVec 32 := 11#32
  let v627 : BitVec 32 := Scalar.subi c11_i32_500 v625
  let v628 : BitVec 32 := Scalar.select v626 v625 v627
  let c256_i32_501 : BitVec 32 := 256#32
  let v629 : BitVec 32 := Scalar.muli v628 c256_i32_501
  let v636 : Index := Scalar.indexCast v629
  let c0_507 : Index := 0#32
  ![v636.toNat, 0]
def k0_off13 (d0 : Dev nD) (c5_i32_508 : BitVec 32) (c0_i32_523 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v638 : BitVec 32 := Scalar.addi v5 c5_i32_508
  let c8_i32_509 : BitVec 32 := 8#32
  let v639 : BitVec 32 := Scalar.remsi v638 c8_i32_509
  let c4_i32_510 : BitVec 32 := 4#32
  let v640 : BitVec 1 := Scalar.cmpi .slt v639 c4_i32_510
  let c11_i32_511 : BitVec 32 := 11#32
  let v641 : BitVec 32 := Scalar.subi c11_i32_511 v639
  let v642 : BitVec 32 := Scalar.select v640 v639 v641
  let c256_i32_522 : BitVec 32 := 256#32
  let v654 : BitVec 32 := Scalar.muli v642 c256_i32_522
  let v655 : BitVec 32 := Scalar.addi v654 c0_i32_523
  let v656 : Index := Scalar.indexCast v655
  let c0_524 : Index := 0#32
  ![v656.toNat, 0]
def k0_off14 (d0 : Dev nD) (c5_i32_508 : BitVec 32) (c0_i32_523 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v638 : BitVec 32 := Scalar.addi v5 c5_i32_508
  let c8_i32_509 : BitVec 32 := 8#32
  let v639 : BitVec 32 := Scalar.remsi v638 c8_i32_509
  let c4_i32_510 : BitVec 32 := 4#32
  let v640 : BitVec 1 := Scalar.cmpi .slt v639 c4_i32_510
  let c11_i32_511 : BitVec 32 := 11#32
  let v641 : BitVec 32 := Scalar.subi c11_i32_511 v639
  let v642 : BitVec 32 := Scalar.select v640 v639 v641
  let c256_i32_522 : BitVec 32 := 256#32
  let v654 : BitVec 32 := Scalar.muli v642 c256_i32_522
  let v655 : BitVec 32 := Scalar.addi v654 c0_i32_523
  let v662 : Index := Scalar.indexCast v655
  let c0_529 : Index := 0#32
  ![v662.toNat, 0]
abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Arith.lean ====
/- The arithmetic of the exchange: the ring of eight devices, the twenty-five transfers each device starts, and the
   pieces of the gathered buffer a device may use at each moment. Nothing here mentions the program. -/
module

public import Mathlib.Data.Fintype.Prod
public import Mathlib.Data.Finset.Basic
public import Idealize.ShloMosaic.Lib.Decide

@[expose] public section

set_option maxRecDepth 16384

namespace Cert.Exchange

/-- The device at a ring position, and the ring position of a device: the map is its own inverse. -/
def gm (r : ℕ) : ℕ := if r < 4 then r else 11 - r

/-- The chunk (a device number) that lies `δ` steps round the ring from device `c`. -/
def ck (c δ : Fin 8) : ℕ := gm ((gm c.val + δ.val) % 8)

/-- Whether device `c` is at an even ring position. -/
def par (c : Fin 8) : Bool := gm c.val % 2 == 0

/-- The device a device sends to: direction `0` the next one, `1` the one before, `2` the chord's other end. -/
def nb (c : Fin 8) (d : Fin 3) : Fin 8 :=
  ⟨(if d.val = 0 then ck c 1 else if d.val = 1 then ck c 7 else if par c then ck c 3 else ck c 5) % 8,
    Nat.mod_lt _ (by decide)⟩

/-- The direction a transfer comes from, seen from its receiver. -/
def opp (d : Fin 3) : Fin 3 := if d = 0 then 1 else if d = 1 then 0 else 2

/-- The direction of transfer `t`, the transfers numbered in the order in which they start. -/
def kd (t : Fin 25) : Fin 3 :=
  if t.val < 16 then (if t.val % 2 = 0 then 0 else 1) else if t.val = 16 then 2 else if t.val % 2 = 1 then 0 else 1

/-- The device that transfer `t` of `c` goes to, and the one whose transfer `t` arrives at `c`. -/
def dst (c : Fin 8) (t : Fin 25) : Fin 8 := nb c (kd t)
/-- The device whose transfer `t` arrives at `c`. -/
def snd (c : Fin 8) (t : Fin 25) : Fin 8 := nb c (opp (kd t))

/-- The quarter of a chunk that transfer `t` moves (the chord, `16`, moves all four). -/
def pc (t : Fin 25) : Fin 4 :=
  ⟨(if t.val < 8 then t.val / 2 else if t.val < 16 then (t.val - 8) / 2 else if t.val = 16 then 0 else (t.val - 17) / 2) % 4,
    Nat.mod_lt _ (by decide)⟩

/-- How far round the ring the chunk of transfer `t` lies from its sender (of parity `b`), and from its receiver. -/
def sδ (b : Bool) (t : Fin 25) : Fin 8 :=
  if t.val < 8 then 0 else if t.val < 16 then (if t.val % 2 = 0 then 7 else 1)
  else if t.val = 16 then (if b then 7 else 1) else if t.val % 2 = 1 then 6 else 2
/-- How far round the ring the chunk of transfer `t` lies from its receiver. -/
def rδ (t : Fin 25) : Fin 8 :=
  if t.val < 8 then (if t.val % 2 = 0 then 7 else 1) else if t.val < 16 then (if t.val % 2 = 0 then 6 else 2)
  else if t.val = 16 then 4 else if t.val % 2 = 1 then 5 else 3

/-- The first row transfer `t` of `c` reads, the first row of what arrives at `c` by transfer `t`, and how many rows. -/
def rowLo (c : Fin 8) (t : Fin 25) : ℕ := 256 * ck c (sδ (par c) t) + 64 * (pc t).val
/-- The first row of what arrives at `c` by transfer `t`. -/
def inLo (c : Fin 8) (t : Fin 25) : ℕ := 256 * ck c (rδ t) + 64 * (pc t).val
/-- How many rows transfer `t` moves. -/
def rowN (t : Fin 25) : ℕ := if t.val = 16 then 256 else 64

/-- The part of a quarter chunk's ownership that transfer `t` lends its copy. -/
def shr (t : Fin 25) : Fin 3 := if t.val < 8 then (if t.val % 2 = 0 then 0 else 1) else if t.val = 16 then 1 else 0

/-- A share of a quarter of a chunk: how far the chunk lies round the ring, which quarter, which share. -/
abbrev Atom : Type := Fin 8 × Fin 4 × Fin 3

/-- Transfer `t` of a device of parity `b` reads atom `a`. -/
def isSrc (b : Bool) (t : Fin 25) (a : Atom) : Bool :=
  decide (a.1 = sδ b t) && (decide (t.val = 16) || decide (a.2.1 = pc t)) && decide (a.2.2 = shr t)

/-- Transfer `t` brings atom `a`. -/
def isInn (t : Fin 25) (a : Atom) : Bool :=
  decide (a.1 = rδ t) && (decide (t.val = 16) || decide (a.2.1 = pc t))

/-- The transfer that reads atom `a`; `99` when none does. -/
def use (b : Bool) (a : Atom) : ℕ :=
  if a.1 = 0 ∧ a.2.2 = 0 then 2 * a.2.1.val
  else if a.1 = 0 ∧ a.2.2 = 1 then 2 * a.2.1.val + 1
  else if a.1 = 7 ∧ a.2.2 = 0 then 8 + 2 * a.2.1.val
  else if a.1 = 1 ∧ a.2.2 = 0 then 9 + 2 * a.2.1.val
  else if a.1 = 6 ∧ a.2.2 = 0 then 17 + 2 * a.2.1.val
  else if a.1 = 2 ∧ a.2.2 = 0 then 18 + 2 * a.2.1.val
  else if a.1 = 7 ∧ a.2.2 = 1 ∧ b = true then 16
  else if a.1 = 1 ∧ a.2.2 = 1 ∧ b = false then 16
  else 99

/-- The transfer that brings atom `a` (for a chunk that is not the device's own). -/
def arr (a : Atom) : ℕ :=
  if a.1 = 7 then 2 * a.2.1.val else if a.1 = 1 then 2 * a.2.1.val + 1
  else if a.1 = 6 then 8 + 2 * a.2.1.val else if a.1 = 2 then 9 + 2 * a.2.1.val
  else if a.1 = 4 then 16 else if a.1 = 5 then 17 + 2 * a.2.1.val else 18 + 2 * a.2.1.val

/-- The place of transfer `u` in the order in which the sends are waited for. -/
def widx (u : ℕ) : ℕ := if u < 16 then u else if u = 16 then 24 else u - 1

/-- The device holds atom `a` when it has stored `o` quarters of its own chunk, started `k` transfers, waited for `j`
    arrivals and for `s` sends. -/
def heldB (b : Bool) (o k j s : ℕ) (a : Atom) : Bool :=
  (if a.1 = 0 then decide (a.2.1.val < o) else decide (arr a < j)) && (decide (k ≤ use b a) || decide (widx (use b a) < s))

/-- The level of an arrival: an arrival is waited for only while transfers of higher levels are still owed. -/
def lvl (t : Fin 25) : ℕ := if t.val < 8 then 2 else if t.val < 17 then 3 else 4

/-- The semaphores: transfer `t`'s place in its table of twelve, and the number of its send (`false`) or receive (`true`)
    semaphore. -/
def slot (t : Fin 25) : ℕ := if t.val < 8 then (pc t).val else if t.val < 16 then 4 + (pc t).val else 8 + (pc t).val
/-- The number of a transfer's send (`false`) or receive (`true`) semaphore. -/
def xn (x : Bool × Fin 25) : ℕ :=
  if kd x.2 = 2 then (if x.1 then 52 else 51)
  else (if kd x.2 = 0 then (if x.1 then 15 else 3) else (if x.1 then 39 else 27)) + slot x.2

/-- The transfer at place `i` of a table. -/
def tAt (d i : ℕ) : Fin 25 :=
  ⟨((if i < 4 then 2 * i else if i < 8 then 8 + 2 * (i - 4) else 17 + 2 * (i - 8)) + d) % 25, Nat.mod_lt _ (by decide)⟩

/-- Which send or receive semaphore a number names. -/
def decN (n : ℕ) : Option (Bool × Fin 25) :=
  if n < 3 then none else if n < 15 then some (false, tAt 0 (n - 3)) else if n < 27 then some (true, tAt 0 (n - 15))
  else if n < 39 then some (false, tAt 1 (n - 27)) else if n < 51 then some (true, tAt 1 (n - 39))
  else if n = 51 then some (false, 16) else some (true, 16)

/-- Every semaphore number is below the number of semaphores there are. -/
theorem xn_lt : ∀ x : Bool × Fin 25, xn x < 53 := by decide +kernel
/-- Reading a semaphore's number back gives the semaphore. -/
theorem decN_xn : ∀ x : Bool × Fin 25, decN (xn x) = some x := by decide +kernel
/-- Different transfers, or different ends of one, have different semaphores. -/
theorem xn_inj : ∀ x y : Bool × Fin 25, xn x = xn y → x = y := fun x y h => by
  have := congrArg decN h
  rw [decN_xn, decN_xn] at this
  exact Option.some.inj this
/-- Every arrival's level is above the barrier's. -/
theorem lvl_pos : ∀ t : Fin 25, 1 < lvl t := by decide +kernel

/-! ### The atoms a transfer reads and brings, as lists -/

/-- The four quarters of chunk `δ` at share `h`. -/
def quarters (δ : Fin 8) (h : Fin 3) : Fin 4 ↪ Atom := ⟨fun p => (δ, p, h), fun p p' e => (Prod.ext_iff.mp (Prod.ext_iff.mp e).2).1⟩
/-- The three shares of quarter `p` of chunk `δ`. -/
def shares (δ : Fin 8) (p : Fin 4) : Fin 3 ↪ Atom := ⟨fun h => (δ, p, h), fun h h' e => (Prod.ext_iff.mp (Prod.ext_iff.mp e).2).2⟩
/-- Every share of every quarter of chunk `δ`. -/
def whole (δ : Fin 8) : Fin 4 × Fin 3 ↪ Atom := ⟨fun x => (δ, x), fun x x' e => (Prod.ext_iff.mp e).2⟩

/-- The chord reads the four quarters of one chunk, at one share. -/
theorem src_chord (b : Bool) : (Finset.univ.filter fun a : Atom => isSrc b 16 a = true) = Finset.univ.map (quarters (sδ b 16) (shr 16)) := by
  revert b; decide +kernel
/-- Every other transfer reads one share of one quarter. -/
theorem src_quarter : ∀ (b : Bool) (t : Fin 25), t ≠ 16 →
    (Finset.univ.filter fun a : Atom => isSrc b t a = true) = {(sδ b t, pc t, shr t)} := by decide +kernel
/-- The chord brings a whole chunk. -/
theorem inn_chord : (Finset.univ.filter fun a : Atom => isInn 16 a = true) = Finset.univ.map (whole (rδ 16)) := by decide +kernel
/-- Every other transfer brings the three shares of one quarter. -/
theorem inn_quarter : ∀ t : Fin 25, t ≠ 16 →
    (Finset.univ.filter fun a : Atom => isInn t a = true) = Finset.univ.map (shares (rδ t) (pc t)) := by decide +kernel

/-- The device whose transfer `t` arrives where `c` sends transfer `t` is `c`. -/
theorem snd_dst : ∀ (c : Fin 8) (t : Fin 25), snd (dst c t) t = c := by decide +kernel
/-- The sender of what arrives at `c` by transfer `t` sends it to `c`. -/
theorem dst_snd : ∀ (c : Fin 8) (t : Fin 25), dst (snd c t) t = c := by decide +kernel
/-- Going one way and then the opposite way leads back. -/
theorem nb_opp : ∀ (c : Fin 8) (d : Fin 3), nb (nb c d) (opp d) = c := by decide +kernel
/-- The opposite of the opposite direction is the direction. -/
theorem opp_opp : ∀ d : Fin 3, opp (opp d) = d := by decide +kernel
/-- A transfer's rows are the same at its sender and at its receiver. -/
theorem rowLo_eq : ∀ (c : Fin 8) (t : Fin 25), rowLo c t = inLo (dst c t) t := by decide +kernel
/-- The rows that arrive lie inside the gathered buffer. -/
theorem inLo_le : ∀ (c : Fin 8) (t : Fin 25), inLo c t + rowN t ≤ 2048 := by decide +kernel
/-- A chunk is one of eight. -/
theorem ck_lt : ∀ (c δ : Fin 8), ck c δ < 8 := by decide +kernel
/-- The chunk at distance zero is the device's own. -/
theorem ck_zero : ∀ c : Fin 8, ck c 0 = c.val := by decide +kernel
/-- Different distances give different chunks, -/
theorem ck_inj : ∀ (c δ δ' : Fin 8), ck c δ = ck c δ' → δ = δ' := by decide +kernel
/-- and every chunk lies at some distance. -/
theorem ck_surj : ∀ (c n : Fin 8), ∃ δ : Fin 8, ck c δ = n.val := by decide +kernel
/-- Different sends are waited for at different places, -/
theorem widx_inj : ∀ t t' : Fin 25, widx t.val = widx t'.val → t = t' := by decide +kernel
/-- and there are twenty-five places. -/
theorem widx_lt : ∀ t : Fin 25, widx t.val < 25 := by decide +kernel

/-- The ring, as a permutation of the devices: transfer `t` goes from each device to another. -/
def along (t : Fin 25) : Fin 8 ≃ Fin 8 := ⟨fun c => dst c t, fun c => snd c t, fun c => snd_dst c t, fun c => dst_snd c t⟩
/-- The neighbour in direction `d`, as a permutation of the devices. -/
def toward (d : Fin 3) : Fin 8 ≃ Fin 8 :=
  ⟨fun c => nb c d, fun c => nb c (opp d), fun c => nb_opp c d, fun c => by have := nb_opp c (opp d); rwa [opp_opp] at this⟩

end Cert.Exchange

end
-- ==== Proof.Common.lean ====
/- The vocabulary of the exchange over this program: the cells and their schedule, what the copies carry, the levels, and
   how the gathered buffer is cut into the pieces the copies move. -/
module

public import proofs.«01_k».proof.Proof.Arith
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Hand

open Cert.KernelIdeal Cert.KernelIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties `Fin 3`) -/

/-- The ghost state of the exchange: its rounds, three parties to each. -/
abbrev UB : Type := URounds (GSem nD τ sig) (Fin 3)
/-- The ghost state of the whole launch: that of the staging, and that of the exchange. -/
abbrev UU : Type := UR sig nD τ × UB

local notation "𝕄" => MT nD τ sig Unit (Elt F) ℕ UU ℕ

/-- Where the ghost state of the staging lies, -/
abbrev EP : Emb (UR sig nD τ) (MT nD τ sig Unit (Elt F) ℕ UU ℕ) := embL
/-- and where that of the exchange lies. -/
abbrev ER : Emb UB (MT nD τ sig Unit (Elt F) ℕ UU ℕ) := embR

variable (m : (ℓ : Loc nD τ sig) → Buf (Elt F) ℓ)

/-! ## Cells -/

/-- The barrier semaphore, and the send (`false`) or receive (`true`) semaphore of a transfer. -/
abbrev barS : Sem sig := (SemArray.scalar (sig.barrier 0 rfl) : Sems sig S_).sem
/-- The semaphore of a transfer's send (`false`) or receive (`true`) end. -/
def xS (x : Bool × Fin 25) : DmaSem sig := (⟨xn x, xn_lt x⟩ : Fin 53)

/-- Device `c`'s barrier semaphore, -/
abbrev barCell (c : Dev nD) : GSem nD τ sig := ((c : Thread nD τ), .reg barS)
/-- its semaphore for the end of the send of transfer `t`, -/
abbrev sendCell (c : Dev nD) (t : Fin 25) : GSem nD τ sig := ((c : Thread nD τ), .dma (xS (false, t)))
/-- and its semaphore for the arrival of transfer `t`. -/
abbrev recvCell (c : Dev nD) (t : Fin 25) : GSem nD τ sig := ((c : Thread nD τ), .dma (xS (true, t)))

/-- What one copy of `n` rows of the gathered buffer credits a semaphore. -/
def cr (n : ℕ) : ℕ := sig.dmaCredit .tc (Kind.table .tc .vmem) cc0_scratch0.idx ⟨2, ![n, 2048]⟩ .bf16
/-- A copy of at least one row is counted by a positive amount. -/
theorem cr_pos (n : ℕ) (h : 0 < n) : 0 < cr n := sig.dmaCredit_pos _ _ _ _ _ (by
  show 0 < (⟨2, ![n, 2048]⟩ : Shape).numel
  simp [Shape.numel, Fin.prod_univ_two, h])
/-- What transfer `t` counts on each of its two semaphores. -/
def amt (t : Fin 25) : ℕ := cr (rowN t)
/-- Every transfer counts a positive amount. -/
theorem amt_pos (t : Fin 25) : 0 < amt t := cr_pos _ (by unfold rowN; split <;> decide)

/-! ## Contents -/

/-- The index at row `r`, column `k` of a rank-2 shape with no empty axis (wrapping round past the edge). -/
def ix {d : Fin 2 → ℕ} (h : ∀ a, 0 < d a) (r k : ℕ) : (⟨2, d⟩ : Shape).Idx := fun a => ⟨(if a = 0 then r else k) % d a, Nat.mod_lt _ (h a)⟩

/-- An index with given row and column is the one made from them. -/
theorem ix_self {d : Fin 2 → ℕ} (h : ∀ a, 0 < d a) (r k : ℕ) (i : (⟨2, d⟩ : Shape).Idx) (h0 : (i 0).val = r) (h1 : (i 1).val = k) : ix h r k = i := by
  funext a
  refine Fin.ext ?_
  match a with
  | ⟨0, _⟩ => show r % d 0 = _; rw [← h0]; exact Nat.mod_eq_of_lt (i 0).isLt
  | ⟨1, _⟩ => show k % d 1 = _; rw [← h1]; exact Nat.mod_eq_of_lt (i 1).isLt

/-- What device `c` is given: its block of `x` and its block of `w`. -/
def xst (c : Dev nD) : (cc0_stg0_0 : Ref sig .tc).ty.Contents (Elt F) :=
  (win0_0.blk (0 : Fin 1)).view.read (Elt F) (m ((c : Thread nD τ).loc main_arg0))
/-- Device `c`'s staged block of the second argument. -/
def wst (c : Dev nD) : (cc0_stg1_0 : Ref sig .tc).ty.Contents (Elt F) :=
  (win0_1.blk (0 : Fin 1)).view.read (Elt F) (m ((c : Thread nD τ).loc main_arg1))

/-- The element of the whole `x` at row `r`, column `k`: device `r / 256` is given it. -/
def xat (r k : ℕ) : Elt F .bf16 := xst m (⟨r / 256 % 8, Nat.mod_lt _ (by decide)⟩ : Fin 8) (ix (d := ![256, 2048]) (by decide) r k)
/-- The whole `x`, as the gathered buffer ends up holding it on every device. -/
def XW : (cc0_scratch0 : Ref sig .tc).ty.Contents (Elt F) := fun i => xat m (i 0).val (i 1).val
/-- `n` rows of it from row `lo`. -/
def rowsOf (lo n : ℕ) : (⟨2, ![n, 2048]⟩ : Shape).Idx → Elt F .bf16 := fun j => xat m (lo + (j 0).val) (j 1).val

/-- `w` as device `c`'s scratch holds it. -/
def wbf (c : Dev nD) : (cc0_scratch1 : Ref sig .tc).ty.Contents (Elt F) := k0_pay6 (wst m c)

/-- The ring distance of chunk `n` from device `c`. -/
def dist (c : Dev nD) (n : ℕ) : ℕ := (gm n + 8 - gm c.val) % 8

/-- Device `c`'s result: the rows of a chunk at distance three or five are computed a quarter at a time, the others a chunk at a time. -/
def OUT (c : Dev nD) : (cc0_stg2_0 : Ref sig .tc).ty.Contents (Elt F) := fun i =>
  if dist c ((i 0).val / 256) = 3 ∨ dist c ((i 0).val / 256) = 5 then
    k0_pay13 (rowsOf m (64 * ((i 0).val / 64)) 64) (wbf m c) (ix (d := ![64, 256]) (by decide) ((i 0).val % 64) (i 1).val)
  else k0_pay7 (rowsOf m (256 * ((i 0).val / 256)) 256) (wbf m c) (ix (d := ![256, 256]) (by decide) ((i 0).val % 256) (i 1).val)

/-! ## Pieces of the gathered buffer -/

/-- Rows `lo` to `lo + n` of the gathered buffer. -/
def rws (lo n : ℕ) : Finset (cc0_scratch0 : Ref sig .tc).ty.Idx := Finset.univ.filter fun i => lo ≤ (i 0).val ∧ (i 0).val < lo + n
/-- An index lies in a band of rows when its row does. -/
theorem mem_rws {lo n : ℕ} {i : (cc0_scratch0 : Ref sig .tc).ty.Idx} : i ∈ rws lo n ↔ lo ≤ (i 0).val ∧ (i 0).val < lo + n := by
  unfold rws; rw [Finset.mem_filter]; exact ⟨fun h => h.2, fun h => ⟨Finset.mem_univ _, h⟩⟩

/-- A piece of device `c`'s gathered buffer. -/
def gP (c : Dev nD) (S : Finset (cc0_scratch0 : Ref sig .tc).ty.Idx) (q : PosShare TreeShare)
    (f : (cc0_scratch0 : Ref sig .tc).ty.Contents (Elt F)) : sProp 𝕄 :=
  ((c : Thread nD τ).loc cc0_scratch0) ↦[S]{q} f

/-- Ownership of a part of the gathered buffer may be stored in an invariant. -/
instance gP_storable (c : Dev nD) (S) (q) (f) : BI.Storable (upEmb : UEmb _ 𝕄) (gP (F := F) c S q f) := by unfold gP; infer_instance

/-- The share of ownership that each of the three shares of a quarter is. -/
def shq (h : Fin 3) : PosShare TreeShare := if h = 0 then fullShare.left else if h = 1 then fullShare.right.left else fullShare.right.right

/-- Ownership of a part depends only on the values there. -/
theorem gP_congr (c : Dev nD) (S) (q) (f g : (cc0_scratch0 : Ref sig .tc).ty.Contents (Elt F)) (h : ∀ i ∈ S, f i = g i) :
    gP c S q f = gP (F := F) c S q g := pointsTo_congr h

/-- A separated family over three is its three members. -/
theorem bigSep_fin3 (Φ : Fin 3 → sProp 𝕄) : bigSep Finset.univ Φ = iprop(Φ 0 ∗ Φ 1 ∗ Φ 2) := bigSep_univ_eq_bigSepL [0, 1, 2] (by decide) (by decide) Φ
/-- A separated family over four is its four members. -/
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- A piece held whole is its three shares. -/
theorem gP_shares (c : Dev nD) (S) (f : (cc0_scratch0 : Ref sig .tc).ty.Contents (Elt F)) :
    (gP c S fullShare f : sProp 𝕄) = bigSep Finset.univ fun h : Fin 3 => gP c S (shq h) f := by
  rw [bigSep_fin3]
  show (gP c S fullShare f : sProp 𝕄) = iprop(gP c S fullShare.left f ∗ gP c S fullShare.right.left f ∗ gP c S fullShare.right.right f)
  unfold gP
  rw [BI.Entails.antisymm (pointsTo_share (PosShare.mem_left_op_right fullShare)).1 (pointsTo_share (PosShare.mem_left_op_right fullShare)).2,
    BI.Entails.antisymm (pointsTo_share (PosShare.mem_left_op_right fullShare.right)).1 (pointsTo_share (PosShare.mem_left_op_right fullShare.right)).2]

/-- A chunk is its four quarters. -/
theorem gP_quarters (c : Dev nD) (lo : ℕ) (q) (f : (cc0_scratch0 : Ref sig .tc).ty.Contents (Elt F)) :
    (gP c (rws lo 256) q f : sProp 𝕄) = bigSep Finset.univ fun p : Fin 4 => gP c (rws (lo + 64 * p.val) 64) q f := by
  have hset : rws lo 256 = Finset.univ.biUnion fun p : Fin 4 => rws (lo + 64 * p.val) 64 := by
    ext i
    rw [Finset.mem_biUnion, mem_rws]
    constructor
    · rintro ⟨h1, h2⟩
      refine ⟨⟨((i 0).val - lo) / 64, by omega⟩, Finset.mem_univ _, mem_rws.mpr ?_⟩
      show lo + 64 * (((i 0).val - lo) / 64) ≤ _ ∧ _ < lo + 64 * (((i 0).val - lo) / 64) + 64
      omega
    · rintro ⟨p, -, h⟩
      have := mem_rws.mp h
      have := p.isLt
      omega
  rw [hset]
  unfold gP
  exact pointsTo_biUnion _ _ fun p _ p' _ hne => Finset.disjoint_left.mpr fun i hi hi' => hne (Fin.ext (by
    have := mem_rws.mp hi; have := mem_rws.mp hi'; omega))

/-- Atom `a` of device `c`'s gathered buffer, holding its rows of the whole `x`. -/
def atom (c : Dev nD) (a : Atom) : sProp 𝕄 := gP c (rws (256 * ck c a.1 + 64 * a.2.1.val) 64) (shq a.2.2) (XW m)
/-- Ownership of an atom may be stored in an invariant. -/
instance atom_storable (c : Dev nD) (a) : BI.Storable (upEmb : UEmb _ 𝕄) (atom (F := F) m c a) := by unfold atom; infer_instance

/-- A chunk at one share is the atoms of its quarters there. -/
theorem atoms_quarters (c : Dev nD) (δ : Fin 8) (h : Fin 3) :
    (bigSep (Finset.univ.map (quarters δ h)) (atom m c) : sProp 𝕄) = gP c (rws (256 * ck c δ) 256) (shq h) (XW m) := by
  rw [bigSep_map, gP_quarters]; rfl
/-- A quarter held whole is the atoms of its shares. -/
theorem atoms_shares (c : Dev nD) (δ : Fin 8) (p : Fin 4) :
    (bigSep (Finset.univ.map (shares δ p)) (atom m c) : sProp 𝕄) = gP c (rws (256 * ck c δ + 64 * p.val) 64) fullShare (XW m) := by
  rw [bigSep_map, gP_shares]; rfl
/-- A chunk held whole is all its atoms. -/
theorem atoms_whole (c : Dev nD) (δ : Fin 8) :
    (bigSep (Finset.univ.map (whole δ)) (atom m c) : sProp 𝕄) = gP c (rws (256 * ck c δ) 256) fullShare (XW m) := by
  rw [bigSep_map, gP_quarters, bigSep_univ_prod]
  exact bigSep_congr fun p _ => by rw [gP_shares]; rfl

/-! ## The schedule -/

/-- What the copy of transfer `t` gives back at `c`'s send semaphore: the share it read. -/
def sendPay (c : Dev nD) (t : Fin 25) : sProp 𝕄 := bigSep (Finset.univ.filter fun a : Atom => isSrc (par c) t a = true) (atom m c)
/-- What the transfer `t` arriving at `c` brings: its rows, whole. -/
def recvPay (c : Dev nD) (t : Fin 25) : sProp 𝕄 := bigSep (Finset.univ.filter fun a : Atom => isInn t a = true) (atom m c)
/-- What the neighbour of `c` in direction `d` hands over with its barrier signal: the rows `c`'s transfers to it fill. -/
def barPay (c : Dev nD) (d : Fin 3) : sProp 𝕄 :=
  bigSep (Finset.univ.filter fun t : Fin 25 => kd t = d) fun t => iprop(∃ f, gP (nb c d) (rws (inLo (nb c d) t) (rowN t)) fullShare f)

/-- What a send gives back: its rows, at the share lent, holding the gathered values. -/
theorem sendPay_eq (c : Dev nD) (t : Fin 25) : (sendPay m c t : sProp 𝕄) = gP c (rws (rowLo c t) (rowN t)) (shq (shr t)) (XW m) := by
  unfold sendPay
  by_cases h : t = 16
  · subst h; rw [src_chord, atoms_quarters]; rfl
  · rw [src_quarter _ _ h, bigSep_singleton]
    have hn : rowN t = 64 := if_neg fun e => h (Fin.ext e)
    rw [hn]; rfl
/-- What an arrival gives: its rows, wholly owned, holding the gathered values. -/
theorem recvPay_eq (c : Dev nD) (t : Fin 25) : (recvPay m c t : sProp 𝕄) = gP c (rws (inLo c t) (rowN t)) fullShare (XW m) := by
  unfold recvPay
  by_cases h : t = 16
  · subst h; rw [inn_chord, atoms_whole]; rfl
  · rw [inn_quarter _ h, atoms_shares]
    have hn : rowN t = 64 := if_neg fun e => h (Fin.ext e)
    rw [hn]; rfl

/-- One round: a barrier cell has three duties of one unit, a send or receive cell one of the copy's credit. -/
def Rd : Rounds.Schedule (GSem nD τ sig) (Fin 3) 𝕄 where
  duties g r := if r = 0 ∧ g.1.2 = .tc then (match g.2 with | .reg _ => Finset.univ | .dma q => (match decN q.val with | some _ => {0} | none => ∅)) else ∅
  unitless _ := False
  amount g _ _ := match g.2 with | .reg _ => 1 | .dma q => (match decN q.val with | some x => amt x.2 | none => 1)
  payload g _ d := match g.2 with
    | .reg _ => barPay g.1.1 d
    | .dma q => (match decN q.val with | some (false, t) => sendPay m g.1.1 t | some (true, t) => recvPay m g.1.1 t | none => iprop(emp))
  amount_pos g _ _ _ := by
    rcases g with ⟨c, sm⟩
    cases sm with
    | reg s => exact Nat.one_pos
    | dma q => show 0 < (match decN q.val with | some x => amt x.2 | none => 1); split <;> first | exact amt_pos _ | exact Nat.one_pos

/-- What each round hands over may be stored in an invariant. -/
instance Rd_payload_storable (g : GSem nD τ sig) (r : ℕ) (d : Fin 3) :
    BI.Storable (upEmb : UEmb _ 𝕄) ((Rd (F := F) m).payload g r d) := by
  show BI.Storable upEmb (match g.2 with
    | .reg _ => barPay g.1.1 d
    | .dma q => (match decN q.val with | some (false, t) => sendPay m g.1.1 t | some (true, t) => recvPay m g.1.1 t | none => iprop(emp)))
  unfold barPay sendPay recvPay
  (repeat' split) <;> infer_instance

section Sched
variable (c : Dev nD) (t : Fin 25)

/-- The number of a transfer's semaphore names that transfer. -/
theorem dec_x (x : Bool × Fin 25) : decN (xS x).val = some x := decN_xn x
/-- Three neighbours signal a barrier. -/
theorem duties_bar : (Rd (F := F) m).duties (barCell c) 0 = Finset.univ := by
  dsimp only [Rd]; exact if_pos ⟨rfl, rfl⟩
/-- One party signals a transfer's semaphore. -/
theorem duties_x (x : Bool × Fin 25) : (Rd (F := F) m).duties ((c : Thread nD τ), .dma (xS x)) 0 = {0} := by
  dsimp only [Rd]
  rw [if_pos ⟨rfl, rfl⟩, dec_x]
/-- No semaphore has a second round. -/
theorem duties_later (g : GSem nD τ sig) : ∀ r, 1 ≤ r → (Rd (F := F) m).duties g r = ∅ :=
  fun r hr => by dsimp only [Rd]; exact if_neg fun h => by omega
/-- A neighbour signals a barrier by one. -/
theorem amount_bar (d : Fin 3) : (Rd (F := F) m).amount (barCell c) 0 d = 1 := rfl
/-- A transfer signals its semaphores by what it counts. -/
theorem amount_x (x : Bool × Fin 25) (d : Fin 3) : (Rd (F := F) m).amount ((c : Thread nD τ), .dma (xS x)) 0 d = amt x.2 := by
  show (match decN (xS x).val with | some x => amt x.2 | none => 1) = amt x.2
  rw [dec_x]
/-- A barrier is waited for by three. -/
theorem expect_bar : (Rd (F := F) m).expect (barCell c) 0 = 3 := by
  unfold Schedule.expect Schedule.amountOf
  rw [duties_bar, Finset.sum_congr rfl fun d _ => amount_bar m c d]; rfl
/-- A transfer's semaphore is waited for by what the transfer counts. -/
theorem expect_x (x : Bool × Fin 25) : (Rd (F := F) m).expect ((c : Thread nD τ), .dma (xS x)) 0 = amt x.2 := by
  unfold Schedule.expect Schedule.amountOf; rw [duties_x, Finset.sum_singleton, amount_x]
/-- A signal of the barrier hands over the rooms it lends. -/
theorem payload_bar (d : Fin 3) : (Rd (F := F) m).payload (barCell c) 0 d = barPay c d := rfl
/-- The end of a send hands its rows back. -/
theorem payload_send (d : Fin 3) : (Rd (F := F) m).payload (sendCell c t) 0 d = sendPay m c t := by
  show (match decN (xS (false, t)).val with | some (false, t) => sendPay m c t | some (true, t) => recvPay m c t | none => iprop(emp)) = _
  rw [dec_x]
/-- An arrival hands over the rows it filled. -/
theorem payload_recv (d : Fin 3) : (Rd (F := F) m).payload (recvCell c t) 0 d = recvPay m c t := by
  show (match decN (xS (true, t)).val with | some (false, t) => sendPay m c t | some (true, t) => recvPay m c t | none => iprop(emp)) = _
  rw [dec_x]
/-- The barrier hands over the rooms of all three neighbours. -/
theorem rest_bar : bigSep ((Rd (F := F) m).duties (barCell c) 0 \ ∅) (fun d => (Rd (F := F) m).payload (barCell c) 0 d)
    = bigSep Finset.univ fun d : Fin 3 => barPay c d := by
  rw [Finset.sdiff_empty, duties_bar]; rfl
/-- The semaphore of a send hands over what the send gives back. -/
theorem rest_send : bigSep ((Rd (F := F) m).duties (sendCell c t) 0 \ ∅) (fun d => (Rd (F := F) m).payload (sendCell c t) 0 d) = sendPay m c t := by
  rw [Finset.sdiff_empty, duties_x, bigSep_singleton, payload_send]
/-- The semaphore of an arrival hands over what the arrival gives. -/
theorem rest_recv : bigSep ((Rd (F := F) m).duties (recvCell c t) 0 \ ∅) (fun d => (Rd (F := F) m).payload (recvCell c t) 0 d) = recvPay m c t := by
  rw [Finset.sdiff_empty, duties_x, bigSep_singleton, payload_recv]
end Sched

/-! ## What a device owes; the levels -/

/-- What device `c` still owes once it has started `k` transfers: the credits of the later ones at their receivers. -/
def owed (c : Dev nD) (k : ℕ) : CellTallies nD τ sig Unit :=
  ∑ t ∈ Finset.univ.filter (fun t : Fin 25 => k ≤ t.val), tallyAt (recvCell (dst c t) t) () (amt t)
/-- At launch it owes the three barrier signals besides, the first to be sent last in the sum. -/
def O₀ (c : Dev nD) : CellTallies nD τ sig Unit :=
  owed c 0 + tallyAt (barCell (nb c 2)) () 1 + tallyAt (barCell (nb c 0)) () 1 + tallyAt (barCell (nb c 1)) () 1

/-- Every semaphore of a TensorCore has one level. -/
def L (g : GSem nD τ sig) : Finset Unit := if g.1.2 = .tc then {()} else ∅
/-- Barrier cells at 1, receive cells at their transfer's level, everything else (staging, send) at 0. -/
def lv (g : GSem nD τ sig) (_ : Unit) : ℕ :=
  match g.2 with | .reg _ => 1 | .dma q => (match decN q.val with | some (true, t) => lvl t | _ => 0)

/-- Other threads have none. -/
theorem L_of_ne (g : GSem nD τ sig) (h : g.1.2 ≠ .tc) : L g = ∅ := if_neg h
/-- A TensorCore's semaphore has its one level. -/
theorem L_tc (c : Dev nD) (sm : SemLoc sig) : L ((c : Thread nD τ), sm) = {()} := if_pos rfl
/-- An arrival's semaphore has its transfer's level. -/
theorem lv_recv (c : Dev nD) (t : Fin 25) : lv (recvCell c t) () = lvl t := by
  show (match decN (xS (true, t)).val with | some (true, t) => lvl t | _ => 0) = _
  rw [dec_x]
/-- A send's semaphore has level zero. -/
theorem lv_send (c : Dev nD) (t : Fin 25) : lv (sendCell c t) () = 0 := by
  show (match decN (xS (false, t)).val with | some (true, t) => lvl t | _ => 0) = _
  rw [dec_x]

/-- The transfers from `k` on are `k` and those after it. -/
theorem ge_insert (k : Fin 25) : (Finset.univ.filter fun t : Fin 25 => k.val ≤ t.val) = insert k (Finset.univ.filter fun t : Fin 25 => k.val + 1 ≤ t.val) := by
  ext t; simp only [Finset.mem_filter, Finset.mem_univ, true_and, Finset.mem_insert, Fin.ext_iff]; omega
/-- Transfer `k` is not among those after it. -/
theorem ge_notMem (k : Fin 25) : k ∉ (Finset.univ.filter fun t : Fin 25 => k.val + 1 ≤ t.val) := by simp
/-- The transfers up to `k` are `k` and those before it. -/
theorem lt_insert (k : Fin 25) : (Finset.univ.filter fun t : Fin 25 => t.val < k.val + 1) = insert k (Finset.univ.filter fun t : Fin 25 => t.val < k.val) := by
  ext t; simp only [Finset.mem_filter, Finset.mem_univ, true_and, Finset.mem_insert, Fin.ext_iff]; omega
/-- Transfer `k` is not among those before it. -/
theorem lt_notMem (k : Fin 25) : k ∉ (Finset.univ.filter fun t : Fin 25 => t.val < k.val) := by simp

/-- Starting transfer `k` pays what was owed for its arrival. -/
theorem owed_step (c : Dev nD) (k : Fin 25) : owed c k.val = owed c (k.val + 1) + tallyAt (recvCell (dst c k) k) () (amt k) := by
  unfold owed; rw [ge_insert, Finset.sum_insert (ge_notMem k), add_comm]
/-- After the last transfer nothing is owed. -/
theorem owed_end (c : Dev nD) : owed c 25 = 0 := by
  unfold owed
  rw [Finset.filter_false_of_mem fun t _ => by have := t.isLt; omega, Finset.sum_empty]

/-- What is owed is owed to the arrival of a transfer not yet started. -/
theorem owed_pos {c : Dev nD} {k : ℕ} {g : GSem nD τ sig} {u : Unit} (h : 0 < owed c k g u) : ∃ t : Fin 25, k ≤ t.val ∧ g = recvCell (dst c t) t := by
  by_contra hn
  have hz : owed c k g u = 0 := by
    unfold owed
    rw [Finset.sum_apply, Finsupp.finset_sum_apply]
    refine Finset.sum_eq_zero fun t ht => ?_
    rw [tallyAt_apply, if_neg]
    exact fun h' => hn ⟨t, (Finset.mem_filter.mp ht).2, h'.1⟩
  omega
/-- At the launch only barriers and arrivals are owed anything. -/
theorem O₀_pos {c : Dev nD} {g : GSem nD τ sig} {u : Unit} (h : 0 < O₀ c g u) :
    (∃ t : Fin 25, g = recvCell (dst c t) t) ∨ ∃ d : Fin 3, g = barCell (nb c d) := by
  unfold O₀ at h
  rw [Pi.add_apply, Finsupp.add_apply, Pi.add_apply, Finsupp.add_apply, Pi.add_apply, Finsupp.add_apply, tallyAt_apply, tallyAt_apply, tallyAt_apply] at h
  by_contra hn
  rw [not_or] at hn
  have h0 : owed c 0 g u = 0 := by
    by_contra h0
    obtain ⟨t, -, ht⟩ := owed_pos (Nat.pos_of_ne_zero h0)
    exact hn.1 ⟨t, ht⟩
  rw [h0, if_neg (fun h' => hn.2 ⟨_, h'.1⟩), if_neg (fun h' => hn.2 ⟨_, h'.1⟩), if_neg (fun h' => hn.2 ⟨_, h'.1⟩)] at h
  exact Nat.lt_irrefl 0 h

/-- A wait at level `n` is allowed while only arrivals above `n` are owed. -/
theorem mayWait_owed (c : Dev nD) (k n : ℕ) (sm : SemLoc sig) (hs : lv ((c : Thread nD τ), sm) () = n)
    (h : ∀ t : Fin 25, k ≤ t.val → n < lvl t) : (levAts L lv : sProp 𝕄) ⊢ MayWait (c : Thread nD τ) sm () (owed c k) :=
  MayOwe.of_cut (L := L) (lev := lv) n (fun p hp => by rw [Finset.mem_singleton.mp hp, L_tc]; exact Finset.mem_singleton_self _)
    (fun g u hg => by obtain ⟨t, -, rfl⟩ := owed_pos hg; exact Finset.mem_singleton_self _)
    (fun p hp => by rw [Finset.mem_singleton.mp hp]; exact hs.le)
    (fun g u hg => by obtain ⟨t, ht, rfl⟩ := owed_pos hg; exact (h t ht).trans_le (lv_recv _ t).ge)
/-- A staging wait, at level 0, is allowed at launch. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by rcases O₀_pos hg with ⟨t, rfl⟩ | ⟨d, rfl⟩ <;> exact Finset.mem_singleton_self _)
      (fun p hp => by rw [Finset.mem_singleton.mp hp]; exact hq.le)
      (fun g u hg => by
        rcases O₀_pos hg with ⟨t, rfl⟩ | ⟨d, rfl⟩
        · exact (Nat.lt_trans Nat.one_pos (lvl_pos t)).trans_le (lv_recv _ t).ge
        · exact Nat.one_pos)
  · rw [MayWait_zero]; iintro -; iempintro

end Cert.KernelIdeal.Hand

end
-- ==== Proof.State.lean ====
/- What a device holds between two operations of the kernel: as assertions indexed by how far it has got. -/
module

public import proofs.«01_k».proof.Proof.Common

@[expose] public section

set_option maxRecDepth 16384

noncomputable section

namespace Cert.KernelIdeal.Hand

open Cert.KernelIdeal Cert.KernelIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- No loop of the kernel needs a bound. -/
abbrev 𝒱₀ : Variants := Variants.none

/-! ## What every device knows -/

/-- A device's cells: its barrier, and a send and a receive cell for each transfer. -/
abbrev CI : Type := Option (Bool × Fin 25)
/-- The semaphore of a cell of the exchange: the barrier, or an end of a transfer. -/
abbrev csem (i : CI) : SemLoc sig := match i with | none => .reg barS | some x => .dma (xS x)
/-- A cell of the exchange, on its device. -/
abbrev kcell (p : Dev nD × CI) : GSem nD τ sig := ((p.1 : Thread nD τ), csem p.2)

/-- Every cell's invariant, that every cell has reached round 0, and the levels. -/
def Rec (K : Dev nD × CI → ℕ) : sProp 𝕄 :=
  iprop((bigSep Finset.univ fun p : Dev nD × CI => cellInv ER (Rd m) (K p) (kcell p))
    ∗ (bigSep Finset.univ fun p : Dev nD × CI => reached ER (kcell p) 0) ∗ levAts L lv)

/-- The shared records may be used as often as needed. -/
instance Rec_persistent (K : Dev nD × CI → ℕ) : BI.Persistent (Rec (F := F) m K) := by unfold Rec; infer_instance

/-- The shared records hold every cell's invariant, -/
theorem Rec_inv (K : Dev nD × CI → ℕ) (p : Dev nD × CI) : (Rec m K : sProp 𝕄) ⊢ cellInv ER (Rd m) (K p) (kcell p) := by
  have h : (bigSep Finset.univ fun p : Dev nD × CI => (cellInv ER (Rd m) (K p) (kcell p) : sProp 𝕄)) ⊢ cellInv ER (Rd m) (K p) (kcell p) :=
    bigSep_elim (Finset.mem_univ p)
  unfold Rec
  iintro ⟨H, -, -⟩
  iapply h; iexact H
/-- the fact that every cell has reached its round, -/
theorem Rec_reached (K : Dev nD × CI → ℕ) (p : Dev nD × CI) : (Rec m K : sProp 𝕄) ⊢ reached ER (kcell p) 0 := by
  have h : (bigSep Finset.univ fun p : Dev nD × CI => (reached ER (kcell p) 0 : sProp 𝕄)) ⊢ reached ER (kcell p) 0 :=
    bigSep_elim (Finset.mem_univ p)
  unfold Rec
  iintro ⟨-, H, -⟩
  iapply h; iexact H
/-- and the levels. -/
theorem Rec_lev (K : Dev nD × CI → ℕ) : (Rec m K : sProp 𝕄) ⊢ levAts L lv := by
  unfold Rec
  iintro ⟨-, -, H⟩
  iexact H

/-! ## The pieces of a device's state -/

variable (c : Dev nD)

/-- It owes the credits of the transfers from `k` on. -/
def Owe (k : ℕ) : sProp 𝕄 := iprop(∃ W : Waits sig Unit, owes (c : Thread nD τ) (owed c k) W)
/-- What starting transfer `t` takes: the two duties and the rows it fills. -/
def sendItem (t : Fin 25) : sProp 𝕄 :=
  iprop(dutyTok ER (sendCell c t) 0 0 ∗ dutyTok ER (recvCell (dst c t) t) 0 0
    ∗ ∃ f, gP (dst c t) (rws (inLo (dst c t) t) (rowN t)) fullShare f)
/-- What device `c` needs for the transfers it has still to start, from `k` on. -/
def ToSend (k : ℕ) : sProp 𝕄 := bigSep (Finset.univ.filter fun t : Fin 25 => k ≤ t.val) (sendItem c)
/-- The credits it has not yet waited for, of arrivals and of its own sends, and where it stands at those cells. -/
def RCred (j : ℕ) : sProp 𝕄 := bigSep (Finset.univ.filter fun t : Fin 25 => j ≤ t.val) fun t => cred (tallyAt (recvCell c t) () (amt t))
/-- Where device `c` stands at the semaphores of its arrivals when `j` have been waited for. -/
def RPos (j : ℕ) : sProp 𝕄 := bigSep Finset.univ fun t : Fin 25 => atPos ER (recvCell c t) (if t.val < j then 1 else 0) ∅ 0
/-- The credits of the sends that have started and have not been waited for. -/
def SCred (k s : ℕ) : sProp 𝕄 :=
  bigSep (Finset.univ.filter fun t : Fin 25 => t.val < k ∧ s ≤ widx t.val) fun t => cred (tallyAt (sendCell c t) () (amt t))
/-- Where device `c` stands at the semaphores of its sends when `s` have been waited for. -/
def SPos (s : ℕ) : sProp 𝕄 := bigSep Finset.univ fun t : Fin 25 => atPos ER (sendCell c t) (if widx t.val < s then 1 else 0) ∅ 0
/-- The quarters of its own chunk it has not yet filled. -/
def ownItem (p : Fin 4) : sProp 𝕄 := iprop(∃ f, gP c (rws (256 * c.val + 64 * p.val) 64) fullShare f)
/-- The quarters of its own chunk that device `c` has not stored yet. -/
def Own (o : ℕ) : sProp 𝕄 := bigSep (Finset.univ.filter fun p : Fin 4 => o ≤ p.val) (ownItem c)
/-- The atoms it holds. -/
def Held (o k j s : ℕ) : sProp 𝕄 := bigSep (Finset.univ.filter fun a : Atom => heldB (par c) o k j s a = true) (atom m c)

/-- A whole staging or scratch buffer. -/
def wholeP (b : Ref sig .tc) (f : b.ty.Contents (Elt F)) : sProp 𝕄 := ((c : Thread nD τ).loc b) ↦{fullShare} f

/-- The place of a piece of the result among the fourteen products, by its chunk's distance and its quarter. -/
def ord (d p : ℕ) : ℕ :=
  if d = 0 then 0 else if d = 7 then 1 else if d = 1 then 2 else if d = 6 then 3 else if d = 2 then 4 else if d = 4 then 5
  else if d = 5 then 6 + 2 * p else 7 + 2 * p

/-- The scratch `w` once stored (`1 ≤ e`), and the result's rows of the first `e - 1` products. -/
def WB (e : ℕ) : sProp 𝕄 := iprop(∃ f : (cc0_scratch1 : Ref sig .tc).ty.Contents (Elt F), ⌜1 ≤ e → f = wbf m c⌝ ∗ wholeP c cc0_scratch1 f)
/-- The first `e` pieces of the result hold what the kernel computes there. -/
def Done (e : ℕ) (f : (cc0_stg2_0 : Ref sig .tc).ty.Contents (Elt F)) : Prop :=
  ∀ i, ord (dist c ((i 0).val / 256)) ((i 0).val / 64 % 4) + 1 < e → f i = OUT m c i
/-- The staged result, with its first `e` pieces done. -/
def OB (e : ℕ) : sProp 𝕄 := iprop(∃ f : (cc0_stg2_0 : Ref sig .tc).ty.Contents (Elt F), ⌜Done m c e f⌝ ∗ wholeP c cc0_stg2_0 f)

/-- The state of device `c` past its barrier: `o` quarters of its own chunk stored, `k` transfers started, `j` arrivals and
    `s` sends waited for, `w` stored and `e - 1` products done. -/
def St (o k j e s : ℕ) : sProp 𝕄 :=
  iprop(Owe c k ∗ ToSend c k ∗ RCred c j ∗ RPos c j ∗ SCred c k s ∗ SPos c s ∗ Own c o ∗ Held m c o k j s
    ∗ wholeP c cc0_stg0_0 (xst m c) ∗ wholeP c cc0_stg1_0 (wst m c) ∗ WB m c e ∗ OB m c e ∗ atPos ER (barCell c) 1 ∅ 0)

/-! ## How the pieces change -/

/-- `P` is `Q` or `R`, which exclude each other. -/
abbrev Joins (P Q R : Atom → Bool) : Prop := ∀ a, P a = (Q a || R a) ∧ (Q a && R a) = false

/-- A separated family splits as its index does. -/
theorem bigSep_joins {P Q R : Atom → Bool} (h : Joins P Q R) (Φ : Atom → sProp 𝕄) :
    bigSep (Finset.univ.filter fun a => P a = true) Φ
      = iprop(bigSep (Finset.univ.filter fun a => Q a = true) Φ ∗ bigSep (Finset.univ.filter fun a => R a = true) Φ) := by
  have hs : (Finset.univ.filter fun a => P a = true) = (Finset.univ.filter fun a => Q a = true) ∪ Finset.univ.filter fun a => R a = true := by
    ext a
    simp only [Finset.mem_union, Finset.mem_filter, Finset.mem_univ, true_and]
    rw [(h a).1, Bool.or_eq_true]
  rw [hs, bigSep_union]
  · rfl
  refine Finset.disjoint_left.mpr fun a ha hb => ?_
  have h2 := (h a).2
  rw [(Finset.mem_filter.mp ha).2, (Finset.mem_filter.mp hb).2] at h2
  cases h2

/-- What is needed for the transfers from `t` on is what `t` needs and the rest. -/
theorem ToSend_step (t : Fin 25) : (ToSend c t.val : sProp 𝕄) = iprop(sendItem c t ∗ ToSend c (t.val + 1)) := by
  unfold ToSend; rw [ge_insert, bigSep_insert (ge_notMem t)]; rfl
/-- The credits of the arrivals from `t` on are that of `t` and the rest. -/
theorem RCred_step (t : Fin 25) : (RCred c t.val : sProp 𝕄) = iprop(cred (tallyAt (recvCell c t) () (amt t)) ∗ RCred c (t.val + 1)) := by
  unfold RCred; rw [ge_insert, bigSep_insert (ge_notMem t)]; rfl
/-- The quarters from `p` on are quarter `p` and the rest. -/
theorem Own_step (p : Fin 4) : (Own c p.val : sProp 𝕄) = iprop(ownItem c p ∗ Own c (p.val + 1)) := by
  unfold Own
  have h : (Finset.univ.filter fun t : Fin 4 => p.val ≤ t.val) = insert p (Finset.univ.filter fun t : Fin 4 => p.val + 1 ≤ t.val) := by
    ext t; simp only [Finset.mem_filter, Finset.mem_univ, true_and, Finset.mem_insert, Fin.ext_iff]; omega
  rw [h, bigSep_insert (by simp)]; rfl
/-- Starting transfer `t` adds its send's credit. -/
theorem SCred_send (t : Fin 25) : (SCred c (t.val + 1) 0 : sProp 𝕄) = iprop(cred (tallyAt (sendCell c t) () (amt t)) ∗ SCred c t.val 0) := by
  unfold SCred
  have h : (Finset.univ.filter fun u : Fin 25 => u.val < t.val + 1 ∧ 0 ≤ widx u.val) = insert t (Finset.univ.filter fun u : Fin 25 => u.val < t.val ∧ 0 ≤ widx u.val) := by
    ext u; simp only [Finset.mem_filter, Finset.mem_univ, true_and, Finset.mem_insert, Fin.ext_iff]; omega
  rw [h, bigSep_insert (by simp)]; rfl
/-- Waiting for a send takes its credit. -/
theorem SCred_wait (t : Fin 25) : (SCred c 25 (widx t.val) : sProp 𝕄) = iprop(cred (tallyAt (sendCell c t) () (amt t)) ∗ SCred c 25 (widx t.val + 1)) := by
  unfold SCred
  have h : (Finset.univ.filter fun u : Fin 25 => u.val < 25 ∧ widx t.val ≤ widx u.val)
      = insert t (Finset.univ.filter fun u : Fin 25 => u.val < 25 ∧ widx t.val + 1 ≤ widx u.val) := by
    ext u
    simp only [Finset.mem_filter, Finset.mem_univ, true_and, Finset.mem_insert]
    constructor
    · rintro ⟨h1, h2⟩
      by_cases he : widx u.val = widx t.val
      · exact .inl (widx_inj _ _ he)
      · exact .inr ⟨h1, by omega⟩
    · rintro (rfl | ⟨h1, h2⟩)
      · exact ⟨u.isLt, le_refl _⟩
      · exact ⟨h1, by omega⟩
  rw [h, bigSep_insert (by simp)]; rfl

/-- Two families that differ at one index. -/
theorem bigSep_change {n : ℕ} (t : Fin n) (Φ Ψ : Fin n → sProp 𝕄) (h : ∀ u, u ≠ t → Φ u = Ψ u) :
    bigSep Finset.univ Φ ⊢ iprop(Φ t ∗ (Ψ t -∗ bigSep Finset.univ Ψ)) := by
  rw [bigSep_univ_split (Φ := Φ) t, bigSep_univ_split (Φ := Ψ) t, bigSep_congr (fun u hu => h u (Finset.ne_of_mem_erase hu))]
  show iprop(Φ t ∗ bigSep (Finset.univ.erase t) Ψ) ⊢ iprop(Φ t ∗ (Ψ t -∗ iprop(Ψ t ∗ bigSep (Finset.univ.erase t) Ψ)))
  iintro ⟨H1, H2⟩
  isplitl [H1]; · iexact H1
  iintro H3
  isplitl [H3] <;> iassumption

/-- Waiting for arrival `t` moves on at that semaphore only. -/
theorem RPos_step (t : Fin 25) : (RPos c t.val : sProp 𝕄) ⊢ iprop(atPos ER (recvCell c t) 0 ∅ 0 ∗ (atPos ER (recvCell c t) 1 ∅ 0 -∗ RPos c (t.val + 1))) := by
  have h := bigSep_change (F := F) t (fun u => atPos ER (recvCell c u) (if u.val < t.val then 1 else 0) ∅ 0)
    (fun u => atPos ER (recvCell c u) (if u.val < t.val + 1 then 1 else 0) ∅ 0) (fun u hu => by
      have : u.val ≠ t.val := fun e => hu (Fin.ext e)
      by_cases h1 : u.val < t.val
      · rw [if_pos h1, if_pos (by omega)]
      · rw [if_neg h1, if_neg (by omega)])
  rw [if_neg (Nat.lt_irrefl _), if_pos (Nat.lt_succ_self _)] at h
  exact h
/-- Waiting for the send of `t` moves on at that semaphore only. -/
theorem SPos_step (t : Fin 25) : (SPos c (widx t.val) : sProp 𝕄) ⊢ iprop(atPos ER (sendCell c t) 0 ∅ 0 ∗ (atPos ER (sendCell c t) 1 ∅ 0 -∗ SPos c (widx t.val + 1))) := by
  have h := bigSep_change (F := F) t (fun u => atPos ER (sendCell c u) (if widx u.val < widx t.val then 1 else 0) ∅ 0)
    (fun u => atPos ER (sendCell c u) (if widx u.val < widx t.val + 1 then 1 else 0) ∅ 0) (fun u hu => by
      have : widx u.val ≠ widx t.val := fun e => hu (widx_inj _ _ e)
      by_cases h1 : widx u.val < widx t.val
      · rw [if_pos h1, if_pos (by omega)]
      · rw [if_neg h1, if_neg (by omega)])
  rw [if_neg (Nat.lt_irrefl _), if_pos (Nat.lt_succ_self _)] at h
  exact h

end Cert.KernelIdeal.Hand

end
-- ==== Proof.Steps.lean ====
/- The kernel's operations one at a time: each takes the state before it to the state after it. -/
module

public import proofs.«01_k».proof.Proof.State
public import Idealize.ShloMosaic.Lib.Pipeline.ValueKit.Geometry

@[expose] public section

set_option maxRecDepth 16384

noncomputable section

namespace Cert.KernelIdeal.Hand

open Cert.KernelIdeal Cert.KernelIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Views of the gathered buffer -/

/-- The gathered buffer. -/
abbrev gM : Memref sig .tc .vmem S2048x2048 .bf16 := Memref.whole cc0_scratch0
/-- The rectangle of `n` whole rows of it at an offset, -/
abbrev gR (n : ℕ) (off : Fin 2 → ℕ) (inb : ∀ a, off a + (⟨2, ![n, 2048]⟩ : Shape).size a ≤ S2048x2048.size a) : Rect S2048x2048 :=
  Rect.unit (s := S2048x2048) off (⟨2, ![n, 2048]⟩ : Shape).size inb
/-- and the slice of it that this rectangle cuts out. -/
abbrev gS (n : ℕ) (off : Fin 2 → ℕ) (inb : ∀ a, off a + (⟨2, ![n, 2048]⟩ : Shape).size a ≤ S2048x2048.size a) :
    Memref sig .tc .vmem ⟨2, ![n, 2048]⟩ .bf16 := gM.slice (gR n off inb) (fun _ => rfl)

/-- The rectangle covers the band of rows it starts at. -/
theorem gR_set {n lo : ℕ} {off : Fin 2 → ℕ} (inb) (h : off = ![lo, 0]) : (gR n off inb).set = rws lo n := by
  subst h
  ext i
  rw [Rect.mem_set_unit, mem_rws]
  constructor
  · intro h; exact h 0
  · intro h a
    match a with
    | ⟨0, _⟩ => exact h
    | ⟨1, _⟩ => exact ⟨Nat.zero_le _, by have := (i 1).isLt; show (i 1).val < 0 + 2048; rw [Nat.zero_add]; exact this⟩

/-- The slice covers the same band. -/
theorem gS_set {n lo : ℕ} {off : Fin 2 → ℕ} (inb) (h : off = ![lo, 0]) : (gS n off inb).view.set = rws lo n := by
  rw [← gR_set inb h]; exact View.set_slice_whole cc0_scratch0 (gR n off inb)

/-- Writing a slice what it reads of other contents makes it agree with them. -/
theorem gS_write {n : ℕ} {off : Fin 2 → ℕ} (inb) (f g : (cc0_scratch0 : Ref sig .tc).ty.Contents (Elt F)) (i) (hi : i ∈ (gS n off inb).view.set) :
    (gS n off inb).view.write (Elt F) f ((gS n off inb).view.read (Elt F) g) Finset.univ i = g i := by
  rw [View.write_read_eq_piecewise, View.setOn_univ]
  exact Finset.piecewise_eq_of_mem _ _ _ hi

/-- Reading a rectangle of the gathered values gives the rows at its offset. -/
theorem gM_read {n lo : ℕ} {off : Fin 2 → ℕ} (inb) (h : off = ![lo, 0]) :
    ((gM.access (gR n off inb) : View sig .tc _ _ _).read (Elt F) (XW m) : (⟨2, ![n, 2048]⟩ : Shape).Idx → Elt F .bf16) = rowsOf m lo n := by
  subst h
  funext j
  have h0 := ValueKit.rect_emb_unit_val (s := S2048x2048) ![lo, 0] (⟨2, ![n, 2048]⟩ : Shape).size inb j 0
  have h1 := ValueKit.rect_emb_unit_val (s := S2048x2048) ![lo, 0] (⟨2, ![n, 2048]⟩ : Shape).size inb j 1
  show xat m ((gR n ![lo, 0] inb).emb j 0).val ((gR n ![lo, 0] inb).emb j 1).val = xat m (lo + (j 0).val) (j 1).val
  rw [h0, h1]
  show xat m (lo + (j 0).val) (0 + (j 1).val) = _
  rw [Nat.zero_add]

/-- Writing those rows leaves the gathered values. -/
theorem gM_write {n lo : ℕ} {off : Fin 2 → ℕ} (inb) (h : off = ![lo, 0]) (f : (cc0_scratch0 : Ref sig .tc).ty.Contents (Elt F)) (i) (hi : i ∈ rws lo n) :
    (gM.access (gR n off inb) : View sig .tc _ _ _).write (Elt F) f (rowsOf m lo n : (⟨2, ![n, 2048]⟩ : Shape).Idx → Elt F .bf16) Finset.univ i = XW m i := by
  rw [← gM_read m inb h, View.write_read_eq_piecewise, View.setOn_univ]
  refine Finset.piecewise_eq_of_mem _ _ _ ?_
  rw [← gR_set inb h] at hi
  rwa [← View.set_slice_whole cc0_scratch0 (gR n off inb)] at hi

/-- A quarter of the device's own block of `x`, read from its staging buffer. -/
theorem xM_read (c : Dev nD) {r : ℕ} (hr : r + 64 ≤ 256) {off : Fin 2 → ℕ} (inb : ∀ a, off a + S64x2048.size a ≤ S256x2048.size a) (h : off = ![r, 0]) :
    (((Memref.whole cc0_stg0_0 : Memref sig .tc .vmem S256x2048 .bf16).access (Rect.unit (s := S256x2048) off S64x2048.size inb) : View sig .tc _ _ _).read (Elt F) (xst m c)
      : S64x2048.Idx → Elt F .bf16) = rowsOf m (256 * c.val + r) 64 := by
  subst h
  funext j
  have h0 := ValueKit.rect_emb_unit_val (s := S256x2048) ![r, 0] S64x2048.size inb j 0
  have h1 := ValueKit.rect_emb_unit_val (s := S256x2048) ![r, 0] S64x2048.size inb j 1
  have hj : (j 0).val < 64 := (j 0).isLt
  have hc : c.val < 8 := c.isLt
  show xst m c ((Rect.unit (s := S256x2048) ![r, 0] S64x2048.size inb).emb j) = xat m (256 * c.val + r + (j 0).val) (j 1).val
  unfold xat
  have hd : (⟨(256 * c.val + r + (j 0).val) / 256 % 8, Nat.mod_lt _ (by decide)⟩ : Fin 8) = c := Fin.ext (by show _ % 8 = c.val; omega)
  rw [hd]
  refine congrArg (xst m c) ?_
  funext a
  refine Fin.ext ?_
  match a with
  | ⟨0, _⟩ => refine h0.trans ?_; show r + (j 0).val = (256 * c.val + r + (j 0).val) % 256; omega
  | ⟨1, _⟩ => refine h1.trans ?_; show 0 + (j 1).val = (j 1).val % 2048; have := (j 1).isLt; have h2 : (j 1).val < 2048 := this; omega

/-! ## The rules -/

/-- What it takes to run a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × CI → ℕ) (c : Dev nD)

/-- Transfer `t` as a rule on what it takes: the rows it reads at their share, what starting it takes, what it owes. -/
theorem wp_copy (t : Fin 25) (d : Dev nD) (hd : d = dst c t) (n : ℕ) (hn : n = rowN t) (off : Fin 2 → ℕ) (hoff : off = ![rowLo c t, 0])
    (inb) (inb') (sS sR : DmaSem sig) (hS : sS = xS (false, t)) (hR : sR = xS (true, t))
    {hsc : (gS n off inb' : Memref sig (Dev.tc d : Thread nD τ).2.kind .vmem ⟨2, ![n, 2048]⟩ .bf16).view.ref.isScScratch = false}
    {hsrc : (gS n off inb).view.WordExact} {hdst : (gS n off inb').view.WordExact}
    {hsem : DmaTarget.Typed .vmem (.dma sR) (.remote (Dev.tc d : Thread nD τ) (gS n off inb') (.dma sS) hsc)}
    {α : Type} {Q : α → sProp 𝕄} {k : PUnit → Prog (TpuEff nD τ sig (Elt F) Λ₀ .tc) α} (W : Waits sig Unit)
    (fd : (cc0_scratch0 : Ref sig .tc).ty.Contents (Elt F)) :
    iprop(cellInv ER (Rd m) (K (c, some (false, t))) (sendCell c t) ∗ cellInv ER (Rd m) (K (dst c t, some (true, t))) (recvCell (dst c t) t)
        ∗ gP c (rws (rowLo c t) (rowN t)) (shq (shr t)) (XW m) ∗ gP (dst c t) (rws (inLo (dst c t) t) (rowN t)) fullShare fd
        ∗ owes (c : Thread nD τ) (owed c t.val) W
        ∗ dutyTok ER (sendCell c t) 0 0 ∗ reached ER (sendCell c t) 0
        ∗ dutyTok ER (recvCell (dst c t) t) 0 0 ∗ reached ER (recvCell (dst c t) t) 0)
      ⊢ iprop(((cred (tallyAt (sendCell c t) () (amt t)) ∗ owes (c : Thread nD τ) (owed c (t.val + 1)) W) -∗ WP c (k ⟨⟩) Q)
          -∗ WP c (.op (.enqueueDma (gS n off inb) (.remote (Dev.tc d : Thread nD τ) (gS n off inb') (.dma sS) hsc) (.dma sR) hsrc hdst hsem) k) Q) := by
  subst hd hn hS hR
  have h1 : (gP c (rws (rowLo c t) (rowN t)) (shq (shr t)) (XW m) : sProp 𝕄)
      = ((gS (rowN t) off inb).view.loc (c : Thread nD τ) ↦[(gS (rowN t) off inb).view.set]{shq (shr t)} XW m) := by
    rw [gS_set inb hoff]; rfl
  have h2 : ∀ f, (gP (dst c t) (rws (inLo (dst c t) t) (rowN t)) fullShare f : sProp 𝕄)
      = ((gS (rowN t) off inb').view.loc (dst c t : Thread nD τ) ↦[(gS (rowN t) off inb').view.set]{fullShare} f) := by
    intro f; rw [gS_set inb' hoff, rowLo_eq]; rfl
  rw [h1, h2]
  have hN : (gS (rowN t) off inb' : Memref sig (Dev.tc (dst c t) : Thread nD τ).2.kind .vmem ⟨2, ![rowN t, 2048]⟩ .bf16).view.amount (.dma (xS (true, t))) = amt t := rfl
  have hp1 : ((gS (rowN t) off inb).view.loc (c : Thread nD τ) ↦[(gS (rowN t) off inb).view.set]{shq (shr t)} XW m) ⊢ (Rd (F := F) m).payload (sendCell c t) 0 0 := by
    rw [payload_send, sendPay_eq, ← h1]
  have hp2 : ((gS (rowN t) off inb').view.loc (dst c t : Thread nD τ) ↦[(gS (rowN t) off inb').view.set]{fullShare}
      ((gS (rowN t) off inb').view.write (Elt F) fd ((gS (rowN t) off inb).view.read (Elt F) (XW m)) Finset.univ)) ⊢ (Rd (F := F) m).payload (recvCell (dst c t) t) 0 0 := by
    rw [payload_recv, recvPay_eq, h2]
    exact Entails.of_eq (pointsTo_congr fun i hi => gS_write inb' fd (XW m) i hi)
  have hr : τ.routes (c : Thread nD τ) (dst c t : Thread nD τ) = true := by generalize dst c t = d; routes
  exact Rounds.wp_send_pointsTo 𝒱₀ ER (Rd m) (c : Thread nD τ) none (c' := (dst c t : Thread nD τ)) (src := gS (rowN t) off inb)
    (dst := (gS (rowN t) off inb' : Memref sig (Dev.tc (dst c t) : Thread nD τ).2.kind .vmem ⟨2, ![rowN t, 2048]⟩ .bf16)) (hsc := hsc)
    (sS := .dma (xS (false, t))) (sem := .dma (xS (true, t)))
    (κ₁ := K (c, some (false, t))) (κ₂ := K (dst c t, some (true, t)))
    (r₁ := 0) (r₂ := 0) (d₁ := 0) (d₂ := 0) (fd := fd)
    (by rw [duties_x]; exact Finset.mem_singleton_self _) (by rw [duties_x]; exact Finset.mem_singleton_self _)
    () () (amt t) hN (amount_x m c (false, t) 0) (amount_x m (dst c t) (true, t) 0) (owed c (t.val + 1)) (owed_step c t) (W := W)
    hp1 hp2 (hr := hr)

/-- Starting transfer `t`. -/
theorem send_step (t : Fin 25) (o j e : ℕ) (hb : ∀ b, Joins (heldB b o t.val j 0) (isSrc b t) (heldB b o (t.val + 1) j 0))
    (d : Dev nD) (hd : d = dst c t) (n : ℕ) (hn : n = rowN t) (off : Fin 2 → ℕ) (hoff : off = ![rowLo c t, 0])
    (inb) (inb') (sS sR : DmaSem sig) (hS : sS = xS (false, t)) (hR : sR = xS (true, t))
    {hsc : (gS n off inb' : Memref sig (Dev.tc d : Thread nD τ).2.kind .vmem ⟨2, ![n, 2048]⟩ .bf16).view.ref.isScScratch = false}
    {hsrc : (gS n off inb).view.WordExact} {hdst : (gS n off inb').view.WordExact}
    {hsem : DmaTarget.Typed .vmem (.dma sR) (.remote (Dev.tc d : Thread nD τ) (gS n off inb') (.dma sS) hsc)}
    {α : Type} {Q : α → sProp 𝕄} {k : PUnit → Prog (TpuEff nD τ sig (Elt F) Λ₀ .tc) α} :
    iprop(Rec m K ∗ St m c o t.val j e 0)
      ⊢ iprop((St m c o (t.val + 1) j e 0 -∗ WP c (k ⟨⟩) Q)
          -∗ WP c (.op (.enqueueDma (gS n off inb) (.remote (Dev.tc d : Thread nD τ) (gS n off inb') (.dma sS) hsc) (.dma sR) hsrc hdst hsem) k) Q) := by
  unfold St Held
  rw [bigSep_joins (hb (par c)), ToSend_step, SCred_send]
  iintro ⟨#HR, Ho, ⟨Hi, Hts⟩, Hrc, Hrp, Hsc, Hsp, Hown, ⟨Hsrc, Hheld⟩, Hx, Hw, Hwb, Hob, Hbar⟩ Hk
  ihave Hsrc := (Entails.of_eq (show (bigSep (Finset.univ.filter fun a : Atom => isSrc (par c) t a = true) (atom m c) : sProp 𝕄) = _ from sendPay_eq m c t)) $$ Hsrc
  unfold sendItem Owe
  icases Hi with ⟨Ht1, Ht2, %fd, Hfd⟩
  icases Ho with ⟨%W, Ho⟩
  iapply (wp_copy m K c t d hd n hn off hoff inb inb' sS sR hS hR W fd) $$ [Hsrc Hfd Ho Ht1 Ht2]
  · isplitr; · iapply (Rec_inv m K (c, some (false, t))); iexact HR
    isplitr; · iapply (Rec_inv m K (dst c t, some (true, t))); iexact HR
    isplitl [Hsrc]; · iexact Hsrc
    isplitl [Hfd]; · iexact Hfd
    isplitl [Ho]; · iexact Ho
    isplitl [Ht1]; · iexact Ht1
    isplitr; · iapply (Rec_reached m K (c, some (false, t))); iexact HR
    isplitl [Ht2]; · iexact Ht2
    iapply (Rec_reached m K (dst c t, some (true, t))); iexact HR
  iintro ⟨Hc, Ho⟩
  iapply Hk
  isplitl [Ho]; · iexists W; iexact Ho
  isplitl [Hts]; · iexact Hts
  isplitl [Hrc]; · iexact Hrc
  isplitl [Hrp]; · iexact Hrp
  isplitl [Hc Hsc]; · isplitl [Hc] <;> iassumption
  isplitl [Hsp]; · iexact Hsp
  isplitl [Hown]; · iexact Hown
  isplitl [Hheld]; · iexact Hheld
  isplitl [Hx]; · iexact Hx
  isplitl [Hw]; · iexact Hw
  isplitl [Hwb]; · iexact Hwb
  isplitl [Hob]; · iexact Hob
  iexact Hbar

/-- Waiting for the arrival of transfer `t`. -/
theorem recv_step (t : Fin 25) (o k₀ e : ℕ) (hb : ∀ b, Joins (heldB b o k₀ (t.val + 1) 0) (isInn t) (heldB b o k₀ t.val 0))
    (hl : ∀ t' : Fin 25, k₀ ≤ t'.val → lvl t < lvl t')
    (n : ℕ) (hn : n = rowN t) (off off' : Fin 2 → ℕ) (inb) (inb') (sR : DmaSem sig) (hR : sR = xS (true, t))
    {hsrc : (gS n off inb).view.WordExact} {hdst : (gS n off' inb').view.WordExact}
    {α : Type} {Q : α → sProp 𝕄} {k : PUnit → Prog (TpuEff nD τ sig (Elt F) Λ₀ .tc) α} :
    iprop(Rec m K ∗ St m c o k₀ t.val e 0)
      ⊢ iprop((St m c o k₀ (t.val + 1) e 0 -∗ WP c (k ⟨⟩) Q)
          -∗ WP c (.op (.waitDma2 sR (gS n off inb) (gS n off' inb') hsrc hdst) k) Q) := by
  subst hn hR
  unfold St Held
  rw [bigSep_joins (hb (par c)), RCred_step]
  iintro ⟨#HR, Ho, Hts, ⟨Hc, Hrc⟩, Hrp, Hsc, Hsp, Hown, Hheld, Hx, Hw, Hwb, Hob, Hbar⟩ Hk
  unfold Owe
  icases Ho with ⟨%W, Ho⟩
  ihave Hrp := (RPos_step c t) $$ Hrp
  icases Hrp with ⟨Hat, Hrp⟩
  iapply (Rounds.wp_wait_rest_token 𝒱₀ ER (Rd m) (c : Thread nD τ) none (κ := K (c, some (true, t)))
      (wpE_waitDma2_eq 𝒱₀ (c : Thread nD τ) none Set.univ) (Set.mem_univ _) () (O := owed c k₀) (W := W) (R := 0) (m := 0) (T := ∅)
      (by rw [Nat.zero_add, expect_x]; rfl)) $$ [Hc Ho Hat]
  · isplitr; · iapply (Rec_inv m K (c, some (true, t))); iexact HR
    isplitl [Hc]; · iexact Hc
    isplitl [Ho]; · iexact Ho
    isplitr; · iapply (mayWait_owed c k₀ (lvl t) (.dma (xS (true, t))) (lv_recv c t) hl); iapply (Rec_lev m K); iexact HR
    iexact Hat
  iintro ⟨Ho, Hat, -, Hpay⟩
  ihave Hpay := (Entails.of_eq (rest_recv m c t)) $$ Hpay
  iapply Hk
  isplitl [Ho]; · iexists _; iexact Ho
  isplitl [Hts]; · iexact Hts
  isplitl [Hrc]; · iexact Hrc
  isplitl [Hrp Hat]; · iapply Hrp; iexact Hat
  isplitl [Hsc]; · iexact Hsc
  isplitl [Hsp]; · iexact Hsp
  isplitl [Hown]; · iexact Hown
  isplitl [Hpay Hheld]
  · isplitl [Hpay]; · unfold recvPay; iexact Hpay
    iexact Hheld
  isplitl [Hx]; · iexact Hx
  isplitl [Hw]; · iexact Hw
  isplitl [Hwb]; · iexact Hwb
  isplitl [Hob]; · iexact Hob
  iexact Hbar

/-- Waiting for the send of transfer `t`. -/
theorem back_step (t : Fin 25) (e : ℕ) (hb : ∀ b, Joins (heldB b 4 25 25 (widx t.val + 1)) (isSrc b t) (heldB b 4 25 25 (widx t.val)))
    (n : ℕ) (hn : n = rowN t) (off off' : Fin 2 → ℕ) (inb) (inb') (sS : DmaSem sig) (hS : sS = xS (false, t))
    {hsrc : (gS n off inb).view.WordExact} {hdst : (gS n off' inb').view.WordExact}
    {α : Type} {Q : α → sProp 𝕄} {k : PUnit → Prog (TpuEff nD τ sig (Elt F) Λ₀ .tc) α} :
    iprop(Rec m K ∗ St m c 4 25 25 e (widx t.val))
      ⊢ iprop((St m c 4 25 25 e (widx t.val + 1) -∗ WP c (k ⟨⟩) Q)
          -∗ WP c (.op (.waitDma2 sS (gS n off inb) (gS n off' inb') hsrc hdst) k) Q) := by
  subst hn hS
  unfold St Held
  rw [bigSep_joins (hb (par c)), SCred_wait]
  iintro ⟨#HR, Ho, Hts, Hrc, Hrp, ⟨Hc, Hsc⟩, Hsp, Hown, Hheld, Hx, Hw, Hwb, Hob, Hbar⟩ Hk
  unfold Owe
  icases Ho with ⟨%W, Ho⟩
  ihave Hsp := (SPos_step c t) $$ Hsp
  icases Hsp with ⟨Hat, Hsp⟩
  iapply (Rounds.wp_wait_rest_token 𝒱₀ ER (Rd m) (c : Thread nD τ) none (κ := K (c, some (false, t)))
      (wpE_waitDma2_eq 𝒱₀ (c : Thread nD τ) none Set.univ) (Set.mem_univ _) () (O := owed c 25) (W := W) (R := 0) (m := 0) (T := ∅)
      (by rw [Nat.zero_add, expect_x]; rfl)) $$ [Hc Ho Hat]
  · isplitr; · iapply (Rec_inv m K (c, some (false, t))); iexact HR
    isplitl [Hc]; · iexact Hc
    isplitl [Ho]; · iexact Ho
    isplitr; · iapply (mayWait_owed c 25 0 (.dma (xS (false, t))) (lv_send c t) (fun t' ht' => absurd t'.isLt (by omega))); iapply (Rec_lev m K); iexact HR
    iexact Hat
  iintro ⟨Ho, Hat, -, Hpay⟩
  ihave Hpay := (Entails.of_eq (rest_send m c t)) $$ Hpay
  iapply Hk
  isplitl [Ho]; · iexists _; iexact Ho
  isplitl [Hts]; · iexact Hts
  isplitl [Hrc]; · iexact Hrc
  isplitl [Hrp]; · iexact Hrp
  isplitl [Hsc]; · iexact Hsc
  isplitl [Hsp Hat]; · iapply Hsp; iexact Hat
  isplitl [Hown]; · iexact Hown
  isplitl [Hpay Hheld]
  · isplitl [Hpay]; · unfold sendPay; iexact Hpay
    iexact Hheld
  isplitl [Hx]; · iexact Hx
  isplitl [Hw]; · iexact Hw
  isplitl [Hwb]; · iexact Hwb
  isplitl [Hob]; · iexact Hob
  iexact Hbar

/-! ## Loads and stores -/

/-- Reading a quarter of the device's own block of `x`. -/
theorem x_step (r : ℕ) (hr : r + 64 ≤ 256) (o k₀ j e s : ℕ) (off : Fin 2 → ℕ) (inb : ∀ a, off a + S64x2048.size a ≤ S256x2048.size a) (hoff : off = ![r, 0])
    {hl} {α : Type} {Q : α → sProp 𝕄} {k : (S64x2048.Idx → Elt F .bf16) → Prog (TpuEff nD τ sig (Elt F) Λ₀ .tc) α} :
    (St m c o k₀ j e s : sProp 𝕄)
      ⊢ iprop((St m c o k₀ j e s -∗ WP c (k (rowsOf m (256 * c.val + r) 64)) Q)
          -∗ WP c (.op (.load (Memref.whole cc0_stg0_0 : Memref sig .tc .vmem S256x2048 .bf16) (Rect.unit (s := S256x2048) off S64x2048.size inb).toLoadRect hl) k) Q) := by
  unfold St wholeP
  iintro ⟨Ho, Hts, Hrc, Hrp, Hsc, Hsp, Hown, Hheld, Hx, Hw, Hwb, Hob, Hbar⟩ Hk
  iapply (wp_load_rect 𝒱₀ (c : Thread nD τ) none Set.univ (m := (Memref.whole cc0_stg0_0 : Memref sig .tc .vmem S256x2048 .bf16))
    (r := Rect.unit (s := S256x2048) off S64x2048.size inb) (Finset.subset_univ _)) $$ Hx; iintro Hx
  rw [xM_read m c hr inb hoff]
  iapply Hk
  isplitl [Ho]; · iexact Ho
  isplitl [Hts]; · iexact Hts
  isplitl [Hrc]; · iexact Hrc
  isplitl [Hrp]; · iexact Hrp
  isplitl [Hsc]; · iexact Hsc
  isplitl [Hsp]; · iexact Hsp
  isplitl [Hown]; · iexact Hown
  isplitl [Hheld]; · iexact Hheld
  isplitl [Hx]; · iexact Hx
  isplitl [Hw]; · iexact Hw
  isplitl [Hwb]; · iexact Hwb
  isplitl [Hob]; · iexact Hob
  iexact Hbar

/-- Reading the whole of the device's block of `w`. -/
theorem w_step (o k₀ j e s : ℕ) (off : Fin 2 → ℕ) (inb : ∀ a, off a + S2048x256.size a ≤ S2048x256.size a) (hoff : off = fun _ => 0)
    {hl} {α : Type} {Q : α → sProp 𝕄} {k : (S2048x256.Idx → Elt F .bf16) → Prog (TpuEff nD τ sig (Elt F) Λ₀ .tc) α} :
    (St m c o k₀ j e s : sProp 𝕄)
      ⊢ iprop((St m c o k₀ j e s -∗ WP c (k (wst m c)) Q)
          -∗ WP c (.op (.load (Memref.whole cc0_stg1_0 : Memref sig .tc .vmem S2048x256 .bf16) (Rect.unit (s := S2048x256) off S2048x256.size inb).toLoadRect hl) k) Q) := by
  unfold St wholeP
  iintro ⟨Ho, Hts, Hrc, Hrp, Hsc, Hsp, Hown, Hheld, Hx, Hw, Hwb, Hob, Hbar⟩ Hk
  iapply (wp_load_rect 𝒱₀ (c : Thread nD τ) none Set.univ (m := (Memref.whole cc0_stg1_0 : Memref sig .tc .vmem S2048x256 .bf16))
    (r := Rect.unit (s := S2048x256) off S2048x256.size inb) (Finset.subset_univ _)) $$ Hw; iintro Hw
  have hrd : ((Memref.whole cc0_stg1_0 : Memref sig .tc .vmem S2048x256 .bf16).access (Rect.unit (s := S2048x256) off S2048x256.size inb) : View sig .tc _ _ _).read (Elt F) (wst m c) = wst m c :=
    Memref.read_access_unit_zero (Elt F) cc0_stg1_0 hoff inb (wst m c)
  rw [hrd]
  iapply Hk
  isplitl [Ho]; · iexact Ho
  isplitl [Hts]; · iexact Hts
  isplitl [Hrc]; · iexact Hrc
  isplitl [Hrp]; · iexact Hrp
  isplitl [Hsc]; · iexact Hsc
  isplitl [Hsp]; · iexact Hsp
  isplitl [Hown]; · iexact Hown
  isplitl [Hheld]; · iexact Hheld
  isplitl [Hx]; · iexact Hx
  isplitl [Hw]; · iexact Hw
  isplitl [Hwb]; · iexact Hwb
  isplitl [Hob]; · iexact Hob
  iexact Hbar

/-- Reading the scratch copy of `w`, whatever it holds. -/
theorem wb_any (o k₀ j e s : ℕ) (off : Fin 2 → ℕ) (inb : ∀ a, off a + S2048x256.size a ≤ S2048x256.size a)
    {hl} {α : Type} {Q : α → sProp 𝕄} {k : (S2048x256.Idx → Elt F .bf16) → Prog (TpuEff nD τ sig (Elt F) Λ₀ .tc) α} :
    (St m c o k₀ j e s : sProp 𝕄)
      ⊢ iprop((∀ v, St m c o k₀ j e s -∗ WP c (k v) Q)
          -∗ WP c (.op (.load (Memref.whole cc0_scratch1 : Memref sig .tc .vmem S2048x256 .bf16) (Rect.unit (s := S2048x256) off S2048x256.size inb).toLoadRect hl) k) Q) := by
  unfold St WB wholeP
  iintro ⟨Ho, Hts, Hrc, Hrp, Hsc, Hsp, Hown, Hheld, Hx, Hw, ⟨%f, %hf, Hwb⟩, Hob, Hbar⟩ Hk
  iapply (wp_load_rect 𝒱₀ (c : Thread nD τ) none Set.univ (m := (Memref.whole cc0_scratch1 : Memref sig .tc .vmem S2048x256 .bf16))
    (r := Rect.unit (s := S2048x256) off S2048x256.size inb) (Finset.subset_univ _)) $$ Hwb; iintro Hwb
  iapply Hk
  isplitl [Ho]; · iexact Ho
  isplitl [Hts]; · iexact Hts
  isplitl [Hrc]; · iexact Hrc
  isplitl [Hrp]; · iexact Hrp
  isplitl [Hsc]; · iexact Hsc
  isplitl [Hsp]; · iexact Hsp
  isplitl [Hown]; · iexact Hown
  isplitl [Hheld]; · iexact Hheld
  isplitl [Hx]; · iexact Hx
  isplitl [Hw]; · iexact Hw
  isplitl [Hwb]
  · iexists f; isplitr; · (ipureintro; exact hf)
    iexact Hwb
  isplitl [Hob]; · iexact Hob
  iexact Hbar

/-- Reading the scratch copy of `w` once it is stored. -/
theorem wb_step (o k₀ j e s : ℕ) (he : 1 ≤ e) (off : Fin 2 → ℕ) (inb : ∀ a, off a + S2048x256.size a ≤ S2048x256.size a) (hoff : off = fun _ => 0)
    {hl} {α : Type} {Q : α → sProp 𝕄} {k : (S2048x256.Idx → Elt F .bf16) → Prog (TpuEff nD τ sig (Elt F) Λ₀ .tc) α} :
    (St m c o k₀ j e s : sProp 𝕄)
      ⊢ iprop((St m c o k₀ j e s -∗ WP c (k (wbf m c)) Q)
          -∗ WP c (.op (.load (Memref.whole cc0_scratch1 : Memref sig .tc .vmem S2048x256 .bf16) (Rect.unit (s := S2048x256) off S2048x256.size inb).toLoadRect hl) k) Q) := by
  unfold St WB wholeP
  iintro ⟨Ho, Hts, Hrc, Hrp, Hsc, Hsp, Hown, Hheld, Hx, Hw, ⟨%f, %hf, Hwb⟩, Hob, Hbar⟩ Hk
  iapply (wp_load_rect 𝒱₀ (c : Thread nD τ) none Set.univ (m := (Memref.whole cc0_scratch1 : Memref sig .tc .vmem S2048x256 .bf16))
    (r := Rect.unit (s := S2048x256) off S2048x256.size inb) (Finset.subset_univ _)) $$ Hwb; iintro Hwb
  have hrd : ((Memref.whole cc0_scratch1 : Memref sig .tc .vmem S2048x256 .bf16).access (Rect.unit (s := S2048x256) off S2048x256.size inb) : View sig .tc _ _ _).read (Elt F) f = f :=
    Memref.read_access_unit_zero (Elt F) cc0_scratch1 hoff inb f
  rw [hrd, hf he]
  iapply Hk
  isplitl [Ho]; · iexact Ho
  isplitl [Hts]; · iexact Hts
  isplitl [Hrc]; · iexact Hrc
  isplitl [Hrp]; · iexact Hrp
  isplitl [Hsc]; · iexact Hsc
  isplitl [Hsp]; · iexact Hsp
  isplitl [Hown]; · iexact Hown
  isplitl [Hheld]; · iexact Hheld
  isplitl [Hx]; · iexact Hx
  isplitl [Hw]; · iexact Hw
  isplitl [Hwb]
  · iexists (wbf m c); isplitr; · (ipureintro; exact fun _ => rfl)
    iexact Hwb
  isplitl [Hob]; · iexact Hob
  iexact Hbar

/-- Storing the scratch copy of `w`. -/
theorem wb_store (o k₀ j s : ℕ) (off : Fin 2 → ℕ) (inb : ∀ a, off a + S2048x256.size a ≤ S2048x256.size a) (hoff : off = fun _ => 0)
    (w : S2048x256.Idx → Elt F .bf16) (hw : w = wbf m c)
    {hx} {hm} {α : Type} {Q : α → sProp 𝕄} {k : PUnit → Prog (TpuEff nD τ sig (Elt F) Λ₀ .tc) α} :
    (St m c o k₀ j 0 s : sProp 𝕄)
      ⊢ iprop((St m c o k₀ j 1 s -∗ WP c (k ⟨⟩) Q)
          -∗ WP c (.op (.store (Memref.whole cc0_scratch1 : Memref sig .tc .vmem S2048x256 .bf16) (Rect.unit (s := S2048x256) off S2048x256.size inb) w Finset.univ hx hm) k) Q) := by
  unfold St WB OB wholeP
  iintro ⟨Ho, Hts, Hrc, Hrp, Hsc, Hsp, Hown, Hheld, Hx, Hw, ⟨%f, %hf, Hwb⟩, ⟨%g, %hg, Hob⟩, Hbar⟩ Hk
  iapply (wp_store 𝒱₀ (c : Thread nD τ) none Set.univ (m := (Memref.whole cc0_scratch1 : Memref sig .tc .vmem S2048x256 .bf16))
    (r := Rect.unit (s := S2048x256) off S2048x256.size inb) (Mk := Finset.univ) (Finset.subset_univ _)) $$ Hwb; iintro Hwb
  have hwr : ((Memref.whole cc0_scratch1 : Memref sig .tc .vmem S2048x256 .bf16).access (Rect.unit (s := S2048x256) off S2048x256.size inb) : View sig .tc _ _ _).write (Elt F) f w Finset.univ = w :=
    Memref.write_access_unit_zero_univ (Elt F) cc0_scratch1 hoff inb f w
  rw [hwr, hw]
  iapply Hk
  isplitl [Ho]; · iexact Ho
  isplitl [Hts]; · iexact Hts
  isplitl [Hrc]; · iexact Hrc
  isplitl [Hrp]; · iexact Hrp
  isplitl [Hsc]; · iexact Hsc
  isplitl [Hsp]; · iexact Hsp
  isplitl [Hown]; · iexact Hown
  isplitl [Hheld]; · iexact Hheld
  isplitl [Hx]; · iexact Hx
  isplitl [Hw]; · iexact Hw
  isplitl [Hwb]
  · iexists (wbf m c); isplitr; · (ipureintro; exact fun _ => rfl)
    iexact Hwb
  isplitl [Hob]
  · iexists g; isplitr; · (ipureintro; exact fun i hi => absurd hi (by omega))
    iexact Hob
  iexact Hbar

/-- Reading a quarter of its own chunk that it has not filled yet. -/
theorem own_any (p : Fin 4) (k₀ j e s : ℕ) (off : Fin 2 → ℕ) (inb : ∀ a, off a + S64x2048.size a ≤ S2048x2048.size a) (hoff : off = ![256 * c.val + 64 * p.val, 0])
    {hl} {α : Type} {Q : α → sProp 𝕄} {k : (S64x2048.Idx → Elt F .bf16) → Prog (TpuEff nD τ sig (Elt F) Λ₀ .tc) α} :
    (St m c p.val k₀ j e s : sProp 𝕄)
      ⊢ iprop((∀ v, St m c p.val k₀ j e s -∗ WP c (k v) Q)
          -∗ WP c (.op (.load (Memref.whole cc0_scratch0 : Memref sig .tc .vmem S2048x2048 .bf16) (Rect.unit (s := S2048x2048) off S64x2048.size inb).toLoadRect hl) k) Q) := by
  unfold St
  rw [Own_step]
  unfold ownItem gP
  iintro ⟨Ho, Hts, Hrc, Hrp, Hsc, Hsp, ⟨⟨%f, Hf⟩, Hown⟩, Hheld, Hx, Hw, Hwb, Hob, Hbar⟩ Hk
  iapply (wp_load_rect 𝒱₀ (c : Thread nD τ) none Set.univ (m := gM) (r := gR 64 off inb) (by rw [← gR_set inb hoff]; exact (View.set_slice_whole cc0_scratch0 _).subset)) $$ Hf; iintro Hf
  iapply Hk
  isplitl [Ho]; · iexact Ho
  isplitl [Hts]; · iexact Hts
  isplitl [Hrc]; · iexact Hrc
  isplitl [Hrp]; · iexact Hrp
  isplitl [Hsc]; · iexact Hsc
  isplitl [Hsp]; · iexact Hsp
  isplitl [Hown Hf]
  · isplitl [Hf]; · iexists f; iexact Hf
    iexact Hown
  isplitl [Hheld]; · iexact Hheld
  isplitl [Hx]; · iexact Hx
  isplitl [Hw]; · iexact Hw
  isplitl [Hwb]; · iexact Hwb
  isplitl [Hob]; · iexact Hob
  iexact Hbar

/-- The atoms of quarter `p` of a device's own chunk. -/
def isOwn (p : Fin 4) (a : Atom) : Bool := decide (a.1 = 0) && decide (a.2.1 = p)
/-- A quarter of the device's own chunk is its three shares. -/
theorem own_atoms : ∀ p : Fin 4, (Finset.univ.filter fun a : Atom => isOwn p a = true) = Finset.univ.map (shares 0 p) := by decide +kernel

/-- Filling a quarter of its own chunk. -/
theorem own_store (p : Fin 4) (k₀ j e : ℕ) (hb : ∀ b, Joins (heldB b (p.val + 1) k₀ j 0) (isOwn p) (heldB b p.val k₀ j 0))
    (off : Fin 2 → ℕ) (inb : ∀ a, off a + S64x2048.size a ≤ S2048x2048.size a) (hoff : off = ![256 * c.val + 64 * p.val, 0])
    (w : S64x2048.Idx → Elt F .bf16) (hw : w = rowsOf m (256 * c.val + 64 * p.val) 64)
    {hx} {hm} {α : Type} {Q : α → sProp 𝕄} {k : PUnit → Prog (TpuEff nD τ sig (Elt F) Λ₀ .tc) α} :
    (St m c p.val k₀ j e 0 : sProp 𝕄)
      ⊢ iprop((St m c (p.val + 1) k₀ j e 0 -∗ WP c (k ⟨⟩) Q)
          -∗ WP c (.op (.store (Memref.whole cc0_scratch0 : Memref sig .tc .vmem S2048x2048 .bf16) (Rect.unit (s := S2048x2048) off S64x2048.size inb) w Finset.univ hx hm) k) Q) := by
  subst hw
  unfold St Held
  rw [Own_step, bigSep_joins (hb (par c)), own_atoms, atoms_shares, ck_zero]
  unfold ownItem
  iintro ⟨Ho, Hts, Hrc, Hrp, Hsc, Hsp, ⟨⟨%f, Hf⟩, Hown⟩, Hheld, Hx, Hw, Hwb, Hob, Hbar⟩ Hk
  ihave Hf := (Entails.of_eq (show (gP c (rws (256 * c.val + 64 * p.val) 64) fullShare f : sProp 𝕄)
      = ((gM.access (gR 64 off inb)).loc (c : Thread nD τ) ↦[rws (256 * c.val + 64 * p.val) 64]{fullShare} f) from rfl)) $$ Hf
  iapply (wp_store 𝒱₀ (c : Thread nD τ) none Set.univ (m := gM) (r := gR 64 off inb) (Mk := Finset.univ) (S := rws (256 * c.val + 64 * p.val) 64) (f := f)
    (by rw [View.setOn_univ, ← gR_set inb hoff]; exact (View.set_slice_whole cc0_scratch0 _).subset)) $$ Hf; iintro Hf
  have hwr : (((gM.access (gR 64 off inb)).loc (c : Thread nD τ) ↦[rws (256 * c.val + 64 * p.val) 64]{fullShare}
      ((gM.access (gR 64 off inb) : View sig .tc _ _ _).write (Elt F) f (rowsOf m (256 * c.val + 64 * p.val) 64 : (⟨2, ![64, 2048]⟩ : Shape).Idx → Elt F .bf16) Finset.univ)) : sProp 𝕄)
      = gP c (rws (256 * c.val + 64 * p.val) 64) fullShare (XW m) := gP_congr c _ _ _ _ fun i hi => gM_write m inb hoff f i hi
  ihave Hf := (Entails.of_eq hwr) $$ Hf
  iapply Hk
  isplitl [Ho]; · iexact Ho
  isplitl [Hts]; · iexact Hts
  isplitl [Hrc]; · iexact Hrc
  isplitl [Hrp]; · iexact Hrp
  isplitl [Hsc]; · iexact Hsc
  isplitl [Hsp]; · iexact Hsp
  isplitl [Hown]; · iexact Hown
  isplitl [Hheld Hf]
  · isplitl [Hf]; · iexact Hf
    iexact Hheld
  isplitl [Hx]; · iexact Hx
  isplitl [Hw]; · iexact Hw
  isplitl [Hwb]; · iexact Hwb
  isplitl [Hob]; · iexact Hob
  iexact Hbar

/-- Reading rows of the gathered buffer it holds. -/
theorem g_load (S : Finset Atom) (n lo : ℕ) (q : PosShare TreeShare) (hS : (bigSep S (atom m c) : sProp 𝕄) = gP c (rws lo n) q (XW m))
    (o k₀ j e s : ℕ) (hb : S ⊆ Finset.univ.filter fun a : Atom => heldB (par c) o k₀ j s a = true)
    (off : Fin 2 → ℕ) (inb) (hoff : off = ![lo, 0])
    {hl} {α : Type} {Q : α → sProp 𝕄} {k : ((⟨2, ![n, 2048]⟩ : Shape).Idx → Elt F .bf16) → Prog (TpuEff nD τ sig (Elt F) Λ₀ .tc) α} :
    (St m c o k₀ j e s : sProp 𝕄)
      ⊢ iprop((St m c o k₀ j e s -∗ WP c (k (rowsOf m lo n)) Q)
          -∗ WP c (.op (.load gM (gR n off inb).toLoadRect hl) k) Q) := by
  unfold St Held
  have hsp : (bigSep (Finset.univ.filter fun a : Atom => heldB (par c) o k₀ j s a = true) (atom m c) : sProp 𝕄)
      = iprop(gP c (rws lo n) q (XW m) ∗ bigSep ((Finset.univ.filter fun a : Atom => heldB (par c) o k₀ j s a = true) \ S) (atom m c)) := by
    rw [bigSep_sdiff_split hb, hS]; rfl
  rw [hsp]
  unfold gP
  iintro ⟨Ho, Hts, Hrc, Hrp, Hsc, Hsp, Hown, ⟨Hf, Hheld⟩, Hx, Hw, Hwb, Hob, Hbar⟩ Hk
  iapply (wp_load_rect 𝒱₀ (c : Thread nD τ) none Set.univ (m := gM) (r := gR n off inb) (by rw [← gR_set inb hoff]; exact (View.set_slice_whole cc0_scratch0 _).subset)) $$ Hf; iintro Hf
  rw [gM_read m inb hoff]
  iapply Hk
  isplitl [Ho]; · iexact Ho
  isplitl [Hts]; · iexact Hts
  isplitl [Hrc]; · iexact Hrc
  isplitl [Hrp]; · iexact Hrp
  isplitl [Hsc]; · iexact Hsc
  isplitl [Hsp]; · iexact Hsp
  isplitl [Hown]; · iexact Hown
  isplitl [Hheld Hf]
  · isplitl [Hf] <;> iassumption
  isplitl [Hx]; · iexact Hx
  isplitl [Hw]; · iexact Hw
  isplitl [Hwb]; · iexact Hwb
  isplitl [Hob]; · iexact Hob
  iexact Hbar

/-- Reading a whole chunk. -/
theorem chunk_load (δ : Fin 8) (o k₀ j e s : ℕ) (hb : ∀ b, ∀ p : Fin 4, heldB b o k₀ j s (δ, p, 2) = true)
    (off : Fin 2 → ℕ) (inb) (hoff : off = ![256 * ck c δ, 0])
    {hl} {α : Type} {Q : α → sProp 𝕄} {k : (S256x2048.Idx → Elt F .bf16) → Prog (TpuEff nD τ sig (Elt F) Λ₀ .tc) α} :
    (St m c o k₀ j e s : sProp 𝕄)
      ⊢ iprop((St m c o k₀ j e s -∗ WP c (k (rowsOf m (256 * ck c δ) 256)) Q)
          -∗ WP c (.op (.load (Memref.whole cc0_scratch0 : Memref sig .tc .vmem S2048x2048 .bf16) (Rect.unit (s := S2048x2048) off S256x2048.size inb).toLoadRect hl) k) Q) :=
  g_load m c (Finset.univ.map (quarters δ 2)) 256 _ (shq 2) (atoms_quarters m c δ 2) o k₀ j e s (fun a ha => by
    obtain ⟨p, -, rfl⟩ := Finset.mem_map.mp ha
    exact Finset.mem_filter.mpr ⟨Finset.mem_univ _, hb (par c) p⟩) off inb hoff

/-- Reading a quarter of a chunk. -/
theorem quarter_load (δ : Fin 8) (p : Fin 4) (o k₀ j e s : ℕ) (hb : ∀ b, heldB b o k₀ j s (δ, p, 2) = true)
    (off : Fin 2 → ℕ) (inb) (hoff : off = ![256 * ck c δ + 64 * p.val, 0])
    {hl} {α : Type} {Q : α → sProp 𝕄} {k : (S64x2048.Idx → Elt F .bf16) → Prog (TpuEff nD τ sig (Elt F) Λ₀ .tc) α} :
    (St m c o k₀ j e s : sProp 𝕄)
      ⊢ iprop((St m c o k₀ j e s -∗ WP c (k (rowsOf m (256 * ck c δ + 64 * p.val) 64)) Q)
          -∗ WP c (.op (.load (Memref.whole cc0_scratch0 : Memref sig .tc .vmem S2048x2048 .bf16) (Rect.unit (s := S2048x2048) off S64x2048.size inb).toLoadRect hl) k) Q) :=
  g_load m c {(δ, p, 2)} 64 _ (shq 2) (by rw [bigSep_singleton]; rfl) o k₀ j e s (fun a ha => by
    rw [Finset.mem_singleton.mp ha]
    exact Finset.mem_filter.mpr ⟨Finset.mem_univ _, hb (par c)⟩) off inb hoff

/-! ## The result -/

/-- Reading the result buffer, whatever it holds. -/
theorem out_any (o k₀ j e s : ℕ) (r : Rect S2048x256)
    {hl} {α : Type} {Q : α → sProp 𝕄} {k : (r.shape.Idx → Elt F .f32) → Prog (TpuEff nD τ sig (Elt F) Λ₀ .tc) α} :
    (St m c o k₀ j e s : sProp 𝕄)
      ⊢ iprop((∀ v, St m c o k₀ j e s -∗ WP c (k v) Q)
          -∗ WP c (.op (.load (Memref.whole cc0_stg2_0 : Memref sig .tc .vmem S2048x256 .f32) r.toLoadRect hl) k) Q) := by
  unfold St OB wholeP
  iintro ⟨Ho, Hts, Hrc, Hrp, Hsc, Hsp, Hown, Hheld, Hx, Hw, Hwb, ⟨%f, %hf, Hob⟩, Hbar⟩ Hk
  iapply (wp_load_rect 𝒱₀ (c : Thread nD τ) none Set.univ (m := (Memref.whole cc0_stg2_0 : Memref sig .tc .vmem S2048x256 .f32))
    (r := r) (Finset.subset_univ _)) $$ Hob; iintro Hob
  iapply Hk
  isplitl [Ho]; · iexact Ho
  isplitl [Hts]; · iexact Hts
  isplitl [Hrc]; · iexact Hrc
  isplitl [Hrp]; · iexact Hrp
  isplitl [Hsc]; · iexact Hsc
  isplitl [Hsp]; · iexact Hsp
  isplitl [Hown]; · iexact Hown
  isplitl [Hheld]; · iexact Hheld
  isplitl [Hx]; · iexact Hx
  isplitl [Hw]; · iexact Hw
  isplitl [Hwb]; · iexact Hwb
  isplitl [Hob]
  · iexists f; isplitr; · (ipureintro; exact hf)
    iexact Hob
  iexact Hbar

/-- Storing rows of the result that hold what they should, when they are the next product's. -/
theorem out_store (o k₀ j e s : ℕ) (he : 1 ≤ e) (n lo : ℕ) (off : Fin 2 → ℕ) (inb : ∀ a, off a + (⟨2, ![n, 256]⟩ : Shape).size a ≤ S2048x256.size a) (hoff : off = ![lo, 0])
    (w : (⟨2, ![n, 256]⟩ : Shape).Idx → Elt F .f32)
    (hw : ∀ j, w j = OUT m c ((Rect.unit (s := S2048x256) off (⟨2, ![n, 256]⟩ : Shape).size inb).emb j))
    (hord : ∀ i : S2048x256.Idx, ord (dist c ((i 0).val / 256)) ((i 0).val / 64 % 4) + 1 = e → lo ≤ (i 0).val ∧ (i 0).val < lo + n)
    {hx} {hm} {α : Type} {Q : α → sProp 𝕄} {k : PUnit → Prog (TpuEff nD τ sig (Elt F) Λ₀ .tc) α} :
    (St m c o k₀ j e s : sProp 𝕄)
      ⊢ iprop((St m c o k₀ j (e + 1) s -∗ WP c (k ⟨⟩) Q)
          -∗ WP c (.op (.store (Memref.whole cc0_stg2_0 : Memref sig .tc .vmem S2048x256 .f32) (Rect.unit (s := S2048x256) off (⟨2, ![n, 256]⟩ : Shape).size inb) w Finset.univ hx hm) k) Q) := by
  unfold St WB OB wholeP
  iintro ⟨Ho, Hts, Hrc, Hrp, Hsc, Hsp, Hown, Hheld, Hx, Hw, ⟨%g, %hg, Hwb⟩, ⟨%f, %hf, Hob⟩, Hbar⟩ Hk
  iapply (wp_store 𝒱₀ (c : Thread nD τ) none Set.univ (m := (Memref.whole cc0_stg2_0 : Memref sig .tc .vmem S2048x256 .f32))
    (r := Rect.unit (s := S2048x256) off (⟨2, ![n, 256]⟩ : Shape).size inb) (Mk := Finset.univ) (Finset.subset_univ _)) $$ Hob; iintro Hob
  iapply Hk
  isplitl [Ho]; · iexact Ho
  isplitl [Hts]; · iexact Hts
  isplitl [Hrc]; · iexact Hrc
  isplitl [Hrp]; · iexact Hrp
  isplitl [Hsc]; · iexact Hsc
  isplitl [Hsp]; · iexact Hsp
  isplitl [Hown]; · iexact Hown
  isplitl [Hheld]; · iexact Hheld
  isplitl [Hx]; · iexact Hx
  isplitl [Hw]; · iexact Hw
  isplitl [Hwb]
  · iexists g; isplitr; · (ipureintro; exact fun _ => hg he)
    iexact Hwb
  isplitl [Hob]
  · iexists _; isplitr [Hob]; swap; · iexact Hob
    ipureintro
    intro i hi
    subst hoff
    by_cases hm : i ∈ (((Memref.whole cc0_stg2_0 : Memref sig .tc .vmem S2048x256 .f32).access (Rect.unit (s := S2048x256) ![lo, 0] (⟨2, ![n, 256]⟩ : Shape).size inb)) : View sig .tc _ _ _).setOn Finset.univ
    · obtain ⟨x, hx, rfl⟩ := Finset.mem_map.mp hm
      rw [View.write_emb_of_mem _ _ hx]
      exact hw x
    · rw [View.write_of_not_mem _ _ _ hm]
      refine hf i ?_
      by_contra hlt
      have hr := hord i (by omega)
      refine hm ?_
      rw [View.setOn_univ]
      refine (ValueKit.mem_set_slice_whole_iff cc0_stg2_0 _ i Rect.mem_set_unit).mpr fun a => ?_
      match a with
      | ⟨0, _⟩ => exact hr
      | ⟨1, _⟩ => exact ⟨Nat.zero_le _, by have := (i 1).isLt; show (i 1).val < 0 + 256; rw [Nat.zero_add]; exact this⟩
  iexact Hbar

/-- The chunk at distance `δ` is at distance `δ`. -/
theorem dist_ck : ∀ (c δ : Fin 8), dist c (ck c δ) = δ.val := by decide +kernel

/-- Storing a chunk's rows of the result. -/
theorem chunk_store (δ : Fin 8) (hδ : δ.val ≠ 3 ∧ δ.val ≠ 5) (o k₀ j e s : ℕ) (he : 1 ≤ e)
    (hord : ∀ (c : Fin 8) (n : Fin 8) (p : Fin 4), ord (dist c n.val) p.val + 1 = e → n.val = ck c δ)
    (off : Fin 2 → ℕ) (inb : ∀ a, off a + S256x256.size a ≤ S2048x256.size a) (hoff : off = ![256 * ck c δ, 0])
    (w : S256x256.Idx → Elt F .f32) (hw : w = k0_pay7 (rowsOf m (256 * ck c δ) 256) (wbf m c))
    {hx} {hm} {α : Type} {Q : α → sProp 𝕄} {k : PUnit → Prog (TpuEff nD τ sig (Elt F) Λ₀ .tc) α} :
    (St m c o k₀ j e s : sProp 𝕄)
      ⊢ iprop((St m c o k₀ j (e + 1) s -∗ WP c (k ⟨⟩) Q)
          -∗ WP c (.op (.store (Memref.whole cc0_stg2_0 : Memref sig .tc .vmem S2048x256 .f32) (Rect.unit (s := S2048x256) off S256x256.size inb) w Finset.univ hx hm) k) Q) :=
  out_store m c o k₀ j e s he 256 (256 * ck c δ) off inb hoff w (fun j => by
    subst hoff
    have h0 : (((Rect.unit (s := S2048x256) ![256 * ck c δ, 0] S256x256.size inb).emb j 0 : Fin _) : ℕ) = 256 * ck c δ + (j 0).val :=
      ValueKit.rect_emb_unit_val (s := S2048x256) ![256 * ck c δ, 0] S256x256.size inb j 0
    have h1 : (((Rect.unit (s := S2048x256) ![256 * ck c δ, 0] S256x256.size inb).emb j 1 : Fin _) : ℕ) = 0 + (j 1).val :=
      ValueKit.rect_emb_unit_val (s := S2048x256) ![256 * ck c δ, 0] S256x256.size inb j 1
    have hj : (j 0).val < 256 := (j 0).isLt
    have hd : ((((Rect.unit (s := S2048x256) ![256 * ck c δ, 0] S256x256.size inb).emb j 0 : Fin _) : ℕ)) / 256 = ck c δ := by rw [h0]; omega
    unfold OUT
    rw [hd, dist_ck, if_neg (by omega), hw]
    refine congrArg _ (ix_self _ _ _ j ?_ ?_).symm
    · rw [h0]; omega
    · rw [h1, Nat.zero_add]) (fun i hi => by
    have hi0 : (i 0).val < 2048 := (i 0).isLt
    have := hord c ⟨(i 0).val / 256, by omega⟩ ⟨(i 0).val / 64 % 4, by omega⟩ hi
    have h' : (i 0).val / 256 = ck c δ := this
    omega)

/-- Storing the rows of a quarter of a chunk. -/
theorem quarter_store (δ : Fin 8) (p : Fin 4) (hδ : δ.val = 3 ∨ δ.val = 5) (o k₀ j e s : ℕ) (he : 1 ≤ e)
    (hord : ∀ (c : Fin 8) (n : Fin 8) (p' : Fin 4), ord (dist c n.val) p'.val + 1 = e → n.val = ck c δ ∧ p'.val = p.val)
    (off : Fin 2 → ℕ) (inb : ∀ a, off a + S64x256.size a ≤ S2048x256.size a) (hoff : off = ![256 * ck c δ + 64 * p.val, 0])
    (w : S64x256.Idx → Elt F .f32) (hw : w = k0_pay13 (rowsOf m (256 * ck c δ + 64 * p.val) 64) (wbf m c))
    {hx} {hm} {α : Type} {Q : α → sProp 𝕄} {k : PUnit → Prog (TpuEff nD τ sig (Elt F) Λ₀ .tc) α} :
    (St m c o k₀ j e s : sProp 𝕄)
      ⊢ iprop((St m c o k₀ j (e + 1) s -∗ WP c (k ⟨⟩) Q)
          -∗ WP c (.op (.store (Memref.whole cc0_stg2_0 : Memref sig .tc .vmem S2048x256 .f32) (Rect.unit (s := S2048x256) off S64x256.size inb) w Finset.univ hx hm) k) Q) :=
  out_store m c o k₀ j e s he 64 (256 * ck c δ + 64 * p.val) off inb hoff w (fun j => by
    subst hoff
    have h0 : (((Rect.unit (s := S2048x256) ![256 * ck c δ + 64 * p.val, 0] S64x256.size inb).emb j 0 : Fin _) : ℕ) = 256 * ck c δ + 64 * p.val + (j 0).val :=
      ValueKit.rect_emb_unit_val (s := S2048x256) ![256 * ck c δ + 64 * p.val, 0] S64x256.size inb j 0
    have h1 : (((Rect.unit (s := S2048x256) ![256 * ck c δ + 64 * p.val, 0] S64x256.size inb).emb j 1 : Fin _) : ℕ) = 0 + (j 1).val :=
      ValueKit.rect_emb_unit_val (s := S2048x256) ![256 * ck c δ + 64 * p.val, 0] S64x256.size inb j 1
    have hj : (j 0).val < 64 := (j 0).isLt
    have hp := p.isLt
    have hd : ((((Rect.unit (s := S2048x256) ![256 * ck c δ + 64 * p.val, 0] S64x256.size inb).emb j 0 : Fin _) : ℕ)) / 256 = ck c δ := by rw [h0]; omega
    have hq : 64 * (((((Rect.unit (s := S2048x256) ![256 * ck c δ + 64 * p.val, 0] S64x256.size inb).emb j 0 : Fin _) : ℕ)) / 64) = 256 * ck c δ + 64 * p.val := by rw [h0]; omega
    unfold OUT
    rw [hd, dist_ck, if_pos hδ, hw, hq]
    refine congrArg _ (ix_self _ _ _ j ?_ ?_).symm
    · rw [h0]; omega
    · rw [h1, Nat.zero_add]) (fun i hi => by
    have hi0 : (i 0).val < 2048 := (i 0).isLt
    have h := hord c ⟨(i 0).val / 256, by omega⟩ ⟨(i 0).val / 64 % 4, by omega⟩ hi
    have h' : (i 0).val / 256 = ck c δ := h.1
    have h'' : (i 0).val / 64 % 4 = p.val := h.2
    omega)

/-! ## The copies into the gathered buffer keep what they are given -/

/-- The value stored for quarter `0` of the device's own chunk is the one read. -/
theorem pay1_eq (v : Vec F S64x2048 .bf16) : k0_pay1 v = v := by unfold k0_pay1; dsimp only; rw [shapeCast_self, shapeCast_self]
/-- The value stored for quarter `1` of the device's own chunk is the one read. -/
theorem pay2_eq (v : Vec F S64x2048 .bf16) : k0_pay2 v = v := by unfold k0_pay2; dsimp only; rw [shapeCast_self, shapeCast_self]
/-- The value stored for quarter `2` of the device's own chunk is the one read. -/
theorem pay3_eq (v : Vec F S64x2048 .bf16) : k0_pay3 v = v := by unfold k0_pay3; dsimp only; rw [shapeCast_self, shapeCast_self]
/-- The value stored for quarter `3` of the device's own chunk is the one read. -/
theorem pay5_eq (v : Vec F S64x2048 .bf16) : k0_pay5 (k0_pay4 v) = v := by unfold k0_pay5 k0_pay4; dsimp only; rw [shapeCast_self, shapeCast_self]

end Cert.KernelIdeal.Hand

end
-- ==== Proof.Parts.lean ====
/- The parts of the kernel's body, each from the state it starts in to the state it ends in. -/
module

public import proofs.«01_k».proof.Proof.Steps

@[expose] public section

set_option maxRecDepth 16384

noncomputable section

namespace Cert.KernelIdeal.Hand

open Cert.KernelIdeal Cert.KernelIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Where the program's offsets and device numbers point -/

/-- The offset of a whole buffer is zero on each axis. -/
theorem hz : (![0, 0] : Fin 2 → ℕ) = fun _ => 0 := funext fun a => by fin_cases a <;> rfl

/-- The device numbers the program computes for its transfers, in the order in which they start. -/
def devs (c : Dev nD) : Fin 25 → ℕ :=
  ![k0_dev4 c, k0_dev5 c, k0_dev6 c, k0_dev7 c, k0_dev8 c, k0_dev9 c, k0_dev10 c, k0_dev11 c, k0_dev12 c, k0_dev13 c, k0_dev14 c, k0_dev15 c, k0_dev16 c, k0_dev17 c, k0_dev18 c, k0_dev19 c, k0_dev20 c, k0_dev21 c, k0_dev22 c, k0_dev23 c, k0_dev24 c, k0_dev25 c, k0_dev26 c, k0_dev27 c, k0_dev28 c]

/-- Each is the number of the device its transfer goes to. -/
theorem devs_eq : ∀ (t : Fin 25) (d : Dev nD), devs d t = (dst d t).val := by decide +kernel
/-- The device number computed for transfer `t` names the device that transfer goes to. -/
theorem dev_dst (t : Fin 25) (d : Dev nD) {h : devs d t < nD} : (⟨devs d t, h⟩ : Dev nD) = dst d t := Fin.ext (devs_eq t d)

/-- The rows of the device's own quarter `p`. -/
theorem off1_own : ∀ (p : Fin 4) (d : Dev nD), k0_off1 d (BitVec.ofNat 32 (64 * p.val)) = ![256 * d.val + 64 * p.val, 0] := by
  decide +kernel
/-- Hop `h` of quarter `p` to the next device reads the rows of its transfer. -/
theorem off2_row : ∀ (h : Fin 3) (p : Fin 4) (d : Dev nD),
    k0_off2 d (BitVec.ofNat 32 h.val) (BitVec.ofNat 32 (64 * p.val)) = ![rowLo d (tAt 0 (4 * h.val + p.val)), 0] := by decide +kernel
/-- Hop `h` of quarter `p` to the device before reads the rows of its transfer. -/
theorem off3_row : ∀ (h : Fin 3) (p : Fin 4) (d : Dev nD),
    k0_off3 d (BitVec.ofNat 32 h.val) (BitVec.ofNat 32 (64 * p.val)) = ![rowLo d (tAt 1 (4 * h.val + p.val)), 0] := by decide +kernel
/-- The chord's transfer reads the rows of transfer `16`. -/
theorem off6_row : ∀ d : Dev nD, k0_off6 d = ![rowLo d 16, 0] := by decide +kernel

/-- The device's own chunk, as the product reads it. -/
theorem off4_chunk : ∀ d : Dev nD, k0_off4 d = ![256 * ck d 0, 0] := by decide +kernel
/-- The rows the product of the device's own chunk is stored at. -/
theorem off5_chunk : ∀ d : Dev nD, k0_off5 d = ![256 * ck d 0, 0] := by decide +kernel
/-- The chunk that came from the device before, after hop `h`. -/
theorem off7_chunk : ∀ (h : Fin 2) (d : Dev nD), k0_off7 d (BitVec.ofNat 32 h.val) = ![256 * ck d ⟨7 - h.val, by omega⟩, 0] := by
  decide +kernel
/-- The rows its product is stored at. -/
theorem off8_chunk : ∀ (h : Fin 2) (d : Dev nD), k0_off8 d (BitVec.ofNat 32 h.val) = ![256 * ck d ⟨7 - h.val, by omega⟩, 0] := by
  decide +kernel
/-- The chunk that came from the next device, after hop `h`. -/
theorem off9_chunk : ∀ (h : Fin 2) (d : Dev nD), k0_off9 d (BitVec.ofNat 32 h.val) = ![256 * ck d ⟨1 + h.val, by omega⟩, 0] := by
  decide +kernel
/-- The rows its product is stored at. -/
theorem off10_chunk : ∀ (h : Fin 2) (d : Dev nD), k0_off10 d (BitVec.ofNat 32 h.val) = ![256 * ck d ⟨1 + h.val, by omega⟩, 0] := by
  decide +kernel
/-- The chunk that came over the chord. -/
theorem off11_chunk : ∀ d : Dev nD, k0_off11 d = ![256 * ck d 4, 0] := by decide +kernel
/-- The rows its product is stored at. -/
theorem off12_chunk : ∀ d : Dev nD, k0_off12 d = ![256 * ck d 4, 0] := by decide +kernel
/-- Quarter `p` of the chunk `δ` steps round the ring. -/
theorem off13_quarter : ∀ (δ : Fin 8) (p : Fin 4) (d : Dev nD),
    k0_off13 d (BitVec.ofNat 32 δ.val) (BitVec.ofNat 32 (64 * p.val)) = ![256 * ck d δ + 64 * p.val, 0] := by decide +kernel
/-- The rows its product is stored at. -/
theorem off14_quarter : ∀ (δ : Fin 8) (p : Fin 4) (d : Dev nD),
    k0_off14 d (BitVec.ofNat 32 δ.val) (BitVec.ofNat 32 (64 * p.val)) = ![256 * ck d δ + 64 * p.val, 0] := by decide +kernel

/-- Place `i` of the table of send semaphores towards the next device. -/
theorem up_send (i : Fin 12) (h : ∀ a, (![i.val] : Fin 1 → ℕ) a + S1.size a ≤ S12.size a) :
    ((cc0_scratch2.slice (Rect.unit (s := S12) ![i.val] S1.size h)).squeeze S_ squeezes_S1_S_).sem = xS (false, tAt 0 i.val) := by
  revert i; decide +kernel
/-- Place `i` of the table of receive semaphores for what the device before sends. -/
theorem up_recv (i : Fin 12) (h : ∀ a, (![i.val] : Fin 1 → ℕ) a + S1.size a ≤ S12.size a) :
    ((cc0_scratch3.slice (Rect.unit (s := S12) ![i.val] S1.size h)).squeeze S_ squeezes_S1_S_).sem = xS (true, tAt 0 i.val) := by
  revert i; decide +kernel
/-- Place `i` of the table of send semaphores towards the device before. -/
theorem down_send (i : Fin 12) (h : ∀ a, (![i.val] : Fin 1 → ℕ) a + S1.size a ≤ S12.size a) :
    ((cc0_scratch4.slice (Rect.unit (s := S12) ![i.val] S1.size h)).squeeze S_ squeezes_S1_S_).sem = xS (false, tAt 1 i.val) := by
  revert i; decide +kernel
/-- Place `i` of the table of receive semaphores for what the next device sends. -/
theorem down_recv (i : Fin 12) (h : ∀ a, (![i.val] : Fin 1 → ℕ) a + S1.size a ≤ S12.size a) :
    ((cc0_scratch5.slice (Rect.unit (s := S12) ![i.val] S1.size h)).squeeze S_ squeezes_S1_S_).sem = xS (true, tAt 1 i.val) := by
  revert i; decide +kernel
/-- The chord's send semaphore. -/
theorem chord_send : ((cc0_scratch6.slice (Rect.unit (s := S1) ![0] S1.size inb_S1_S1_0)).squeeze S_ squeezes_S1_S_).sem = xS (false, 16) := rfl
/-- The chord's receive semaphore. -/
theorem chord_recv : ((cc0_scratch7.slice (Rect.unit (s := S1) ![0] S1.size inb_S1_S1_0)).squeeze S_ squeezes_S1_S_).sem = xS (true, 16) := rfl

variable (K : Dev nD × CI → ℕ) (c : Dev nD)

/-- A part that returns hands its value to what follows it. -/
theorem WP_ret {α : Type} {a : α} {Q : α → sProp 𝕄} : Q a ⊢ WP c (Prog.ret a) Q := by
  show Q a ⊢ wp frame (wpE (defs₀ (F := F)) 𝒱₀ (c : Thread nD τ) none) Set.univ (Prog.ret a) Q
  rw [wp_ret]; exact fupd_intro

/-- Part 3 of the body: the device starts transfers 0 and 1; copies its own quarter 1. -/
theorem part3 (v5 : BitVec 32) (v15 : BitVec 32) (v39 : BitVec 32) {Q : _ → sProp 𝕄} :
    iprop(Rec m K ∗ St m c 1 0 0 0 0)
      ⊢ iprop((∀ a, St m c 2 2 0 0 0 -∗ Q a)
          -∗ WP c (k0_part3 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v15 v39) Q) := by
  simp only [k0_part3_eq_skeleton]; unfold k0_part3_skel
  simp only [Prog.lift, Prog.bind_op, Prog.bind_ret, Prog.pure_eq_ret]
  iintro ⟨#HR, HS⟩ Hk
  iapply (send_step m K c (⟨0, Nat.le_of_ble_eq_true rfl⟩ : Fin 25) 1 0 0 (by decide +kernel) _ (dev_dst (⟨0, Nat.le_of_ble_eq_true rfl⟩ : Fin 25) c) 64 (by decide +kernel) _ (off2_row (⟨0, Nat.le_of_ble_eq_true rfl⟩ : Fin 3) (⟨0, Nat.le_of_ble_eq_true rfl⟩ : Fin 4) c) _ _ _ _ (up_send (⟨0, Nat.le_of_ble_eq_true rfl⟩ : Fin 12) _) (up_recv (⟨0, Nat.le_of_ble_eq_true rfl⟩ : Fin 12) _)) $$ [HS]
  · isplitr; · iexact HR
    iexact HS
  iintro HS
  iapply (send_step m K c (⟨1, Nat.le_of_ble_eq_true rfl⟩ : Fin 25) 1 0 0 (by decide +kernel) _ (dev_dst (⟨1, Nat.le_of_ble_eq_true rfl⟩ : Fin 25) c) 64 (by decide +kernel) _ (off3_row (⟨0, Nat.le_of_ble_eq_true rfl⟩ : Fin 3) (⟨0, Nat.le_of_ble_eq_true rfl⟩ : Fin 4) c) _ _ _ _ (down_send (⟨0, Nat.le_of_ble_eq_true rfl⟩ : Fin 12) _) (down_recv (⟨0, Nat.le_of_ble_eq_true rfl⟩ : Fin 12) _)) $$ [HS]
  · isplitr; · iexact HR
    iexact HS
  iintro HS
  iapply (x_step m c 64 (by decide) 1 2 0 0 0 _ _ rfl) $$ HS; iintro HS
  iapply (own_any m c (⟨1, Nat.le_of_ble_eq_true rfl⟩ : Fin 4) 2 0 0 0 _ _ (off1_own (⟨1, Nat.le_of_ble_eq_true rfl⟩ : Fin 4) c)) $$ HS; iintro %v HS
  iapply (own_store m c (⟨1, Nat.le_of_ble_eq_true rfl⟩ : Fin 4) 2 0 0 (by decide +kernel) _ _ (off1_own (⟨1, Nat.le_of_ble_eq_true rfl⟩ : Fin 4) c) _ (pay2_eq _)) $$ HS; iintro HS
  iapply (WP_ret c)
  iapply Hk; iexact HS

/-- Part 4 of the body: the device starts transfers 2 and 3; copies its own quarter 2. -/
theorem part4 (v5 : BitVec 32) (v10 : BitVec 32) (v15 : BitVec 32) (v39 : BitVec 32) {Q : _ → sProp 𝕄} :
    iprop(Rec m K ∗ St m c 2 2 0 0 0)
      ⊢ iprop((∀ a, St m c 3 4 0 0 0 -∗ Q a)
          -∗ WP c (k0_part4 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v10 v15 v39) Q) := by
  simp only [k0_part4_eq_skeleton]; unfold k0_part4_skel
  simp only [Prog.lift, Prog.bind_op, Prog.bind_ret, Prog.pure_eq_ret]
  iintro ⟨#HR, HS⟩ Hk
  iapply (send_step m K c (⟨2, Nat.le_of_ble_eq_true rfl⟩ : Fin 25) 2 0 0 (by decide +kernel) _ (dev_dst (⟨2, Nat.le_of_ble_eq_true rfl⟩ : Fin 25) c) 64 (by decide +kernel) _ (off2_row (⟨0, Nat.le_of_ble_eq_true rfl⟩ : Fin 3) (⟨1, Nat.le_of_ble_eq_true rfl⟩ : Fin 4) c) _ _ _ _ (up_send (⟨1, Nat.le_of_ble_eq_true rfl⟩ : Fin 12) _) (up_recv (⟨1, Nat.le_of_ble_eq_true rfl⟩ : Fin 12) _)) $$ [HS]
  · isplitr; · iexact HR
    iexact HS
  iintro HS
  iapply (send_step m K c (⟨3, Nat.le_of_ble_eq_true rfl⟩ : Fin 25) 2 0 0 (by decide +kernel) _ (dev_dst (⟨3, Nat.le_of_ble_eq_true rfl⟩ : Fin 25) c) 64 (by decide +kernel) _ (off3_row (⟨0, Nat.le_of_ble_eq_true rfl⟩ : Fin 3) (⟨1, Nat.le_of_ble_eq_true rfl⟩ : Fin 4) c) _ _ _ _ (down_send (⟨1, Nat.le_of_ble_eq_true rfl⟩ : Fin 12) _) (down_recv (⟨1, Nat.le_of_ble_eq_true rfl⟩ : Fin 12) _)) $$ [HS]
  · isplitr; · iexact HR
    iexact HS
  iintro HS
  iapply (x_step m c 128 (by decide) 2 4 0 0 0 _ _ rfl) $$ HS; iintro HS
  iapply (own_any m c (⟨2, Nat.le_of_ble_eq_true rfl⟩ : Fin 4) 4 0 0 0 _ _ (off1_own (⟨2, Nat.le_of_ble_eq_true rfl⟩ : Fin 4) c)) $$ HS; iintro %v HS
  iapply (own_store m c (⟨2, Nat.le_of_ble_eq_true rfl⟩ : Fin 4) 4 0 0 (by decide +kernel) _ _ (off1_own (⟨2, Nat.le_of_ble_eq_true rfl⟩ : Fin 4) c) _ (pay3_eq _)) $$ HS; iintro HS
  iapply (WP_ret c)
  iapply Hk; iexact HS

/-- Part 5 of the body: the device starts transfers 4 and 5. -/
theorem part5 (v5 : BitVec 32) (v10 : BitVec 32) (v15 : BitVec 32) (v39 : BitVec 32) (v125 : BitVec 32) (c4_i32_85 : BitVec 32) {Q : _ → sProp 𝕄} :
    iprop(Rec m K ∗ St m c 3 4 0 0 0)
      ⊢ iprop((∀ v, St m c 3 6 0 0 0 -∗ Q ⟨k0_pay4 (rowsOf m (256 * c.val + 192) 64), v⟩)
          -∗ WP c (k0_part5 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v10 v15 v39 v125 c4_i32_85) Q) := by
  simp only [k0_part5_eq_skeleton]; unfold k0_part5_skel
  simp only [Prog.lift, Prog.bind_op, Prog.bind_ret, Prog.pure_eq_ret]
  iintro ⟨#HR, HS⟩ Hk
  iapply (send_step m K c (⟨4, Nat.le_of_ble_eq_true rfl⟩ : Fin 25) 3 0 0 (by decide +kernel) _ (dev_dst (⟨4, Nat.le_of_ble_eq_true rfl⟩ : Fin 25) c) 64 (by decide +kernel) _ (off2_row (⟨0, Nat.le_of_ble_eq_true rfl⟩ : Fin 3) (⟨2, Nat.le_of_ble_eq_true rfl⟩ : Fin 4) c) _ _ _ _ (up_send (⟨2, Nat.le_of_ble_eq_true rfl⟩ : Fin 12) _) (up_recv (⟨2, Nat.le_of_ble_eq_true rfl⟩ : Fin 12) _)) $$ [HS]
  · isplitr; · iexact HR
    iexact HS
  iintro HS
  iapply (send_step m K c (⟨5, Nat.le_of_ble_eq_true rfl⟩ : Fin 25) 3 0 0 (by decide +kernel) _ (dev_dst (⟨5, Nat.le_of_ble_eq_true rfl⟩ : Fin 25) c) 64 (by decide +kernel) _ (off3_row (⟨0, Nat.le_of_ble_eq_true rfl⟩ : Fin 3) (⟨2, Nat.le_of_ble_eq_true rfl⟩ : Fin 4) c) _ _ _ _ (down_send (⟨2, Nat.le_of_ble_eq_true rfl⟩ : Fin 12) _) (down_recv (⟨2, Nat.le_of_ble_eq_true rfl⟩ : Fin 12) _)) $$ [HS]
  · isplitr; · iexact HR
    iexact HS
  iintro HS
  iapply (x_step m c 192 (by decide) 3 6 0 0 0 _ _ rfl) $$ HS; iintro HS
  iapply (own_any m c (⟨3, Nat.le_of_ble_eq_true rfl⟩ : Fin 4) 6 0 0 0 _ _ (off1_own (⟨3, Nat.le_of_ble_eq_true rfl⟩ : Fin 4) c)) $$ HS; iintro %v HS
  iapply (WP_ret c)
  iapply Hk; iexact HS

/-- Part 6 of the body: the device copies its own quarter 3; starts transfer 6. -/
theorem part6 (v5 : BitVec 32) (v10 : BitVec 32) (v15 : BitVec 32)  (v158 : Vec F S64x2048 .bf16) {Q : _ → sProp 𝕄} :
    iprop(Rec m K ∗ St m c 3 6 0 0 0)
      ⊢ iprop((∀ a, St m c 4 7 0 0 0 -∗ Q a)
          -∗ WP c (k0_part6 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v10 v15 (k0_pay4 (rowsOf m (256 * c.val + 192) 64)) v158) Q) := by
  simp only [k0_part6_eq_skeleton]; unfold k0_part6_skel
  simp only [Prog.lift, Prog.bind_op, Prog.bind_ret, Prog.pure_eq_ret]
  iintro ⟨#HR, HS⟩ Hk
  iapply (own_store m c (⟨3, Nat.le_of_ble_eq_true rfl⟩ : Fin 4) 6 0 0 (by decide +kernel) _ _ (off1_own (⟨3, Nat.le_of_ble_eq_true rfl⟩ : Fin 4) c) _ (pay5_eq _)) $$ HS; iintro HS
  iapply (send_step m K c (⟨6, Nat.le_of_ble_eq_true rfl⟩ : Fin 25) 4 0 0 (by decide +kernel) _ (dev_dst (⟨6, Nat.le_of_ble_eq_true rfl⟩ : Fin 25) c) 64 (by decide +kernel) _ (off2_row (⟨0, Nat.le_of_ble_eq_true rfl⟩ : Fin 3) (⟨3, Nat.le_of_ble_eq_true rfl⟩ : Fin 4) c) _ _ _ _ (up_send (⟨3, Nat.le_of_ble_eq_true rfl⟩ : Fin 12) _) (up_recv (⟨3, Nat.le_of_ble_eq_true rfl⟩ : Fin 12) _)) $$ [HS]
  · isplitr; · iexact HR
    iexact HS
  iintro HS
  iapply (WP_ret c)
  iapply Hk; iexact HS

/-- Part 7 of the body: the device starts transfer 7; stores the weights; multiplies the chunk at distance 0;
    waits for the arrival of transfer 0. -/
theorem part7 (v5 : BitVec 32) (v10 : BitVec 32) (v39 : BitVec 32) {Q : _ → sProp 𝕄} :
    iprop(Rec m K ∗ St m c 4 7 0 0 0)
      ⊢ iprop((∀ a, St m c 4 8 1 2 0 -∗ Q a)
          -∗ WP c (k0_part7 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v10 v39) Q) := by
  simp only [k0_part7_eq_skeleton]; unfold k0_part7_skel
  simp only [Prog.lift, Prog.bind_op, Prog.bind_ret, Prog.pure_eq_ret]
  iintro ⟨#HR, HS⟩ Hk
  iapply (send_step m K c (⟨7, Nat.le_of_ble_eq_true rfl⟩ : Fin 25) 4 0 0 (by decide +kernel) _ (dev_dst (⟨7, Nat.le_of_ble_eq_true rfl⟩ : Fin 25) c) 64 (by decide +kernel) _ (off3_row (⟨0, Nat.le_of_ble_eq_true rfl⟩ : Fin 3) (⟨3, Nat.le_of_ble_eq_true rfl⟩ : Fin 4) c) _ _ _ _ (down_send (⟨3, Nat.le_of_ble_eq_true rfl⟩ : Fin 12) _) (down_recv (⟨3, Nat.le_of_ble_eq_true rfl⟩ : Fin 12) _)) $$ [HS]
  · isplitr; · iexact HR
    iexact HS
  iintro HS
  iapply (w_step m c 4 8 0 0 0 _ _ hz) $$ HS; iintro HS
  iapply (wb_any m c 4 8 0 0 0 _ _) $$ HS; iintro %v HS
  iapply (wb_store m c 4 8 0 0 _ _ hz _ rfl) $$ HS; iintro HS
  iapply (chunk_load m c (⟨0, Nat.le_of_ble_eq_true rfl⟩ : Fin 8) 4 8 0 1 0 (by decide +kernel) _ _ (off4_chunk c)) $$ HS; iintro HS
  iapply (wb_step m c 4 8 0 1 0 (by decide) _ _ hz) $$ HS; iintro HS
  iapply (out_any m c 4 8 0 1 0 _) $$ HS; iintro %v HS
  iapply (chunk_store m c (⟨0, Nat.le_of_ble_eq_true rfl⟩ : Fin 8) (by decide) 4 8 0 1 0 (by decide) (by decide +kernel) _ _ (off5_chunk c) _ rfl) $$ HS; iintro HS
  iapply (recv_step m K c (⟨0, Nat.le_of_ble_eq_true rfl⟩ : Fin 25) 4 8 2 (by decide +kernel) (by decide +kernel) 64 (by decide +kernel) _ _ _ _ _ (up_recv (⟨0, Nat.le_of_ble_eq_true rfl⟩ : Fin 12) _)) $$ [HS]
  · isplitr; · iexact HR
    iexact HS
  iintro HS
  iapply (WP_ret c)
  iapply Hk; iexact HS

/-- Part 8 of the body: the device starts transfer 8; waits for the arrival of transfer 1; starts transfer 9. -/
theorem part8 (v5 : BitVec 32) (v10 : BitVec 32) (v15 : BitVec 32) {Q : _ → sProp 𝕄} :
    iprop(Rec m K ∗ St m c 4 8 1 2 0)
      ⊢ iprop((∀ a, St m c 4 10 2 2 0 -∗ Q a)
          -∗ WP c (k0_part8 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v10 v15) Q) := by
  simp only [k0_part8_eq_skeleton]; unfold k0_part8_skel
  simp only [Prog.lift, Prog.bind_op, Prog.bind_ret, Prog.pure_eq_ret]
  iintro ⟨#HR, HS⟩ Hk
  iapply (send_step m K c (⟨8, Nat.le_of_ble_eq_true rfl⟩ : Fin 25) 4 1 2 (by decide +kernel) _ (dev_dst (⟨8, Nat.le_of_ble_eq_true rfl⟩ : Fin 25) c) 64 (by decide +kernel) _ (off2_row (⟨1, Nat.le_of_ble_eq_true rfl⟩ : Fin 3) (⟨0, Nat.le_of_ble_eq_true rfl⟩ : Fin 4) c) _ _ _ _ (up_send (⟨4, Nat.le_of_ble_eq_true rfl⟩ : Fin 12) _) (up_recv (⟨4, Nat.le_of_ble_eq_true rfl⟩ : Fin 12) _)) $$ [HS]
  · isplitr; · iexact HR
    iexact HS
  iintro HS
  iapply (recv_step m K c (⟨1, Nat.le_of_ble_eq_true rfl⟩ : Fin 25) 4 9 2 (by decide +kernel) (by decide +kernel) 64 (by decide +kernel) _ _ _ _ _ (down_recv (⟨0, Nat.le_of_ble_eq_true rfl⟩ : Fin 12) _)) $$ [HS]
  · isplitr; · iexact HR
    iexact HS
  iintro HS
  iapply (send_step m K c (⟨9, Nat.le_of_ble_eq_true rfl⟩ : Fin 25) 4 2 2 (by decide +kernel) _ (dev_dst (⟨9, Nat.le_of_ble_eq_true rfl⟩ : Fin 25) c) 64 (by decide +kernel) _ (off3_row (⟨1, Nat.le_of_ble_eq_true rfl⟩ : Fin 3) (⟨0, Nat.le_of_ble_eq_true rfl⟩ : Fin 4) c) _ _ _ _ (down_send (⟨4, Nat.le_of_ble_eq_true rfl⟩ : Fin 12) _) (down_recv (⟨4, Nat.le_of_ble_eq_true rfl⟩ : Fin 12) _)) $$ [HS]
  · isplitr; · iexact HR
    iexact HS
  iintro HS
  iapply (WP_ret c)
  iapply Hk; iexact HS

/-- Part 9 of the body: the device waits for the arrival of transfer 2; starts transfer 10; waits for the arrival
    of transfer 3. -/
theorem part9 (v5 : BitVec 32) (v10 : BitVec 32) (v15 : BitVec 32) {Q : _ → sProp 𝕄} :
    iprop(Rec m K ∗ St m c 4 10 2 2 0)
      ⊢ iprop((∀ a, St m c 4 11 4 2 0 -∗ Q a)
          -∗ WP c (k0_part9 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v10 v15) Q) := by
  simp only [k0_part9_eq_skeleton]; unfold k0_part9_skel
  simp only [Prog.lift, Prog.bind_op, Prog.bind_ret, Prog.pure_eq_ret]
  iintro ⟨#HR, HS⟩ Hk
  iapply (recv_step m K c (⟨2, Nat.le_of_ble_eq_true rfl⟩ : Fin 25) 4 10 2 (by decide +kernel) (by decide +kernel) 64 (by decide +kernel) _ _ _ _ _ (up_recv (⟨1, Nat.le_of_ble_eq_true rfl⟩ : Fin 12) _)) $$ [HS]
  · isplitr; · iexact HR
    iexact HS
  iintro HS
  iapply (send_step m K c (⟨10, Nat.le_of_ble_eq_true rfl⟩ : Fin 25) 4 3 2 (by decide +kernel) _ (dev_dst (⟨10, Nat.le_of_ble_eq_true rfl⟩ : Fin 25) c) 64 (by decide +kernel) _ (off2_row (⟨1, Nat.le_of_ble_eq_true rfl⟩ : Fin 3) (⟨1, Nat.le_of_ble_eq_true rfl⟩ : Fin 4) c) _ _ _ _ (up_send (⟨5, Nat.le_of_ble_eq_true rfl⟩ : Fin 12) _) (up_recv (⟨5, Nat.le_of_ble_eq_true rfl⟩ : Fin 12) _)) $$ [HS]
  · isplitr; · iexact HR
    iexact HS
  iintro HS
  iapply (recv_step m K c (⟨3, Nat.le_of_ble_eq_true rfl⟩ : Fin 25) 4 11 2 (by decide +kernel) (by decide +kernel) 64 (by decide +kernel) _ _ _ _ _ (down_recv (⟨1, Nat.le_of_ble_eq_true rfl⟩ : Fin 12) _)) $$ [HS]
  · isplitr; · iexact HR
    iexact HS
  iintro HS
  iapply (WP_ret c)
  iapply Hk; iexact HS

/-- Part 10 of the body: the device starts transfer 11; waits for the arrival of transfer 4; starts transfer 12. -/
theorem part10 (v5 : BitVec 32) (v10 : BitVec 32) (v15 : BitVec 32) {Q : _ → sProp 𝕄} :
    iprop(Rec m K ∗ St m c 4 11 4 2 0)
      ⊢ iprop((∀ a, St m c 4 13 5 2 0 -∗ Q a)
          -∗ WP c (k0_part10 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v10 v15) Q) := by
  simp only [k0_part10_eq_skeleton]; unfold k0_part10_skel
  simp only [Prog.lift, Prog.bind_op, Prog.bind_ret, Prog.pure_eq_ret]
  iintro ⟨#HR, HS⟩ Hk
  iapply (send_step m K c (⟨11, Nat.le_of_ble_eq_true rfl⟩ : Fin 25) 4 4 2 (by decide +kernel) _ (dev_dst (⟨11, Nat.le_of_ble_eq_true rfl⟩ : Fin 25) c) 64 (by decide +kernel) _ (off3_row (⟨1, Nat.le_of_ble_eq_true rfl⟩ : Fin 3) (⟨1, Nat.le_of_ble_eq_true rfl⟩ : Fin 4) c) _ _ _ _ (down_send (⟨5, Nat.le_of_ble_eq_true rfl⟩ : Fin 12) _) (down_recv (⟨5, Nat.le_of_ble_eq_true rfl⟩ : Fin 12) _)) $$ [HS]
  · isplitr; · iexact HR
    iexact HS
  iintro HS
  iapply (recv_step m K c (⟨4, Nat.le_of_ble_eq_true rfl⟩ : Fin 25) 4 12 2 (by decide +kernel) (by decide +kernel) 64 (by decide +kernel) _ _ _ _ _ (up_recv (⟨2, Nat.le_of_ble_eq_true rfl⟩ : Fin 12) _)) $$ [HS]
  · isplitr; · iexact HR
    iexact HS
  iintro HS
  iapply (send_step m K c (⟨12, Nat.le_of_ble_eq_true rfl⟩ : Fin 25) 4 5 2 (by decide +kernel) _ (dev_dst (⟨12, Nat.le_of_ble_eq_true rfl⟩ : Fin 25) c) 64 (by decide +kernel) _ (off2_row (⟨1, Nat.le_of_ble_eq_true rfl⟩ : Fin 3) (⟨2, Nat.le_of_ble_eq_true rfl⟩ : Fin 4) c) _ _ _ _ (up_send (⟨6, Nat.le_of_ble_eq_true rfl⟩ : Fin 12) _) (up_recv (⟨6, Nat.le_of_ble_eq_true rfl⟩ : Fin 12) _)) $$ [HS]
  · isplitr; · iexact HR
    iexact HS
  iintro HS
  iapply (WP_ret c)
  iapply Hk; iexact HS

/-- Part 11 of the body: the device waits for the arrival of transfer 5; starts transfer 13; waits for the arrival
    of transfer 6. -/
theorem part11 (v5 : BitVec 32) (v10 : BitVec 32) (v15 : BitVec 32) (c1_i32_237 : BitVec 32) {Q : _ → sProp 𝕄} :
    iprop(Rec m K ∗ St m c 4 13 5 2 0)
      ⊢ iprop((∀ a, St m c 4 14 7 2 0 -∗ Q a)
          -∗ WP c (k0_part11 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v10 v15 c1_i32_237) Q) := by
  simp only [k0_part11_eq_skeleton]; unfold k0_part11_skel
  simp only [Prog.lift, Prog.bind_op, Prog.bind_ret, Prog.pure_eq_ret]
  iintro ⟨#HR, HS⟩ Hk
  iapply (recv_step m K c (⟨5, Nat.le_of_ble_eq_true rfl⟩ : Fin 25) 4 13 2 (by decide +kernel) (by decide +kernel) 64 (by decide +kernel) _ _ _ _ _ (down_recv (⟨2, Nat.le_of_ble_eq_true rfl⟩ : Fin 12) _)) $$ [HS]
  · isplitr; · iexact HR
    iexact HS
  iintro HS
  iapply (send_step m K c (⟨13, Nat.le_of_ble_eq_true rfl⟩ : Fin 25) 4 6 2 (by decide +kernel) _ (dev_dst (⟨13, Nat.le_of_ble_eq_true rfl⟩ : Fin 25) c) 64 (by decide +kernel) _ (off3_row (⟨1, Nat.le_of_ble_eq_true rfl⟩ : Fin 3) (⟨2, Nat.le_of_ble_eq_true rfl⟩ : Fin 4) c) _ _ _ _ (down_send (⟨6, Nat.le_of_ble_eq_true rfl⟩ : Fin 12) _) (down_recv (⟨6, Nat.le_of_ble_eq_true rfl⟩ : Fin 12) _)) $$ [HS]
  · isplitr; · iexact HR
    iexact HS
  iintro HS
  iapply (recv_step m K c (⟨6, Nat.le_of_ble_eq_true rfl⟩ : Fin 25) 4 14 2 (by decide +kernel) (by decide +kernel) 64 (by decide +kernel) _ _ _ _ _ (up_recv (⟨3, Nat.le_of_ble_eq_true rfl⟩ : Fin 12) _)) $$ [HS]
  · isplitr; · iexact HR
    iexact HS
  iintro HS
  iapply (WP_ret c)
  iapply Hk; iexact HS

/-- Part 12 of the body: the device starts transfer 14; waits for the arrival of transfer 7. -/
theorem part12 (v5 : BitVec 32) (v10 : BitVec 32) (v15 : BitVec 32) (v342 : BitVec 32) (v343 : BitVec 1) (c11_i32_263 : BitVec 32) {Q : _ → sProp 𝕄} :
    iprop(Rec m K ∗ St m c 4 14 7 2 0)
      ⊢ iprop((∀ a, St m c 4 15 8 2 0 -∗ Q a)
          -∗ WP c (k0_part12 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v10 v15 v342 v343 c11_i32_263) Q) := by
  simp only [k0_part12_eq_skeleton]; unfold k0_part12_skel
  simp only [Prog.lift, Prog.bind_op, Prog.bind_ret, Prog.pure_eq_ret]
  iintro ⟨#HR, HS⟩ Hk
  iapply (send_step m K c (⟨14, Nat.le_of_ble_eq_true rfl⟩ : Fin 25) 4 7 2 (by decide +kernel) _ (dev_dst (⟨14, Nat.le_of_ble_eq_true rfl⟩ : Fin 25) c) 64 (by decide +kernel) _ (off2_row (⟨1, Nat.le_of_ble_eq_true rfl⟩ : Fin 3) (⟨3, Nat.le_of_ble_eq_true rfl⟩ : Fin 4) c) _ _ _ _ (up_send (⟨7, Nat.le_of_ble_eq_true rfl⟩ : Fin 12) _) (up_recv (⟨7, Nat.le_of_ble_eq_true rfl⟩ : Fin 12) _)) $$ [HS]
  · isplitr; · iexact HR
    iexact HS
  iintro HS
  iapply (recv_step m K c (⟨7, Nat.le_of_ble_eq_true rfl⟩ : Fin 25) 4 15 2 (by decide +kernel) (by decide +kernel) 64 (by decide +kernel) _ _ _ _ _ (down_recv (⟨3, Nat.le_of_ble_eq_true rfl⟩ : Fin 12) _)) $$ [HS]
  · isplitr; · iexact HR
    iexact HS
  iintro HS
  iapply (WP_ret c)
  iapply Hk; iexact HS

/-- Part 13 of the body: the device starts transfers 15 and 16; multiplies the chunk at distance 7. -/
theorem part13 (v5 : BitVec 32) (v24 : BitVec 32) (v31 : BitVec 32) {Q : _ → sProp 𝕄} :
    iprop(Rec m K ∗ St m c 4 15 8 2 0)
      ⊢ iprop((∀ a, St m c 4 17 8 3 0 -∗ Q a)
          -∗ WP c (k0_part13 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v24 v31) Q) := by
  simp only [k0_part13_eq_skeleton]; unfold k0_part13_skel
  simp only [Prog.lift, Prog.bind_op, Prog.bind_ret, Prog.pure_eq_ret]
  iintro ⟨#HR, HS⟩ Hk
  iapply (send_step m K c (⟨15, Nat.le_of_ble_eq_true rfl⟩ : Fin 25) 4 8 2 (by decide +kernel) _ (dev_dst (⟨15, Nat.le_of_ble_eq_true rfl⟩ : Fin 25) c) 64 (by decide +kernel) _ (off3_row (⟨1, Nat.le_of_ble_eq_true rfl⟩ : Fin 3) (⟨3, Nat.le_of_ble_eq_true rfl⟩ : Fin 4) c) _ _ _ _ (down_send (⟨7, Nat.le_of_ble_eq_true rfl⟩ : Fin 12) _) (down_recv (⟨7, Nat.le_of_ble_eq_true rfl⟩ : Fin 12) _)) $$ [HS]
  · isplitr; · iexact HR
    iexact HS
  iintro HS
  iapply (send_step m K c (⟨16, Nat.le_of_ble_eq_true rfl⟩ : Fin 25) 4 8 2 (by decide +kernel) _ (dev_dst (⟨16, Nat.le_of_ble_eq_true rfl⟩ : Fin 25) c) 256 (by decide +kernel) _ (off6_row c) _ _ _ _ chord_send chord_recv) $$ [HS]
  · isplitr; · iexact HR
    iexact HS
  iintro HS
  iapply (chunk_load m c (⟨7, Nat.le_of_ble_eq_true rfl⟩ : Fin 8) 4 17 8 2 0 (by decide +kernel) _ _ (off7_chunk (⟨0, Nat.le_of_ble_eq_true rfl⟩ : Fin 2) c)) $$ HS; iintro HS
  iapply (wb_step m c 4 17 8 2 0 (by decide) _ _ hz) $$ HS; iintro HS
  iapply (out_any m c 4 17 8 2 0 _) $$ HS; iintro %v HS
  iapply (chunk_store m c (⟨7, Nat.le_of_ble_eq_true rfl⟩ : Fin 8) (by decide) 4 17 8 2 0 (by decide) (by decide +kernel) _ _ (off8_chunk (⟨0, Nat.le_of_ble_eq_true rfl⟩ : Fin 2) c) _ rfl) $$ HS; iintro HS
  iapply (WP_ret c)
  iapply Hk; iexact HS

/-- Part 14 of the body: the device multiplies the chunk at distance 1; waits for the arrival of transfer 8;
    starts transfer 17. -/
theorem part14 (v5 : BitVec 32) (v10 : BitVec 32) (v407 : BitVec 32) {Q : _ → sProp 𝕄} :
    iprop(Rec m K ∗ St m c 4 17 8 3 0)
      ⊢ iprop((∀ a, St m c 4 18 9 4 0 -∗ Q a)
          -∗ WP c (k0_part14 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v10 v407) Q) := by
  simp only [k0_part14_eq_skeleton]; unfold k0_part14_skel
  simp only [Prog.lift, Prog.bind_op, Prog.bind_ret, Prog.pure_eq_ret]
  iintro ⟨#HR, HS⟩ Hk
  iapply (chunk_load m c (⟨1, Nat.le_of_ble_eq_true rfl⟩ : Fin 8) 4 17 8 3 0 (by decide +kernel) _ _ (off9_chunk (⟨0, Nat.le_of_ble_eq_true rfl⟩ : Fin 2) c)) $$ HS; iintro HS
  iapply (wb_step m c 4 17 8 3 0 (by decide) _ _ hz) $$ HS; iintro HS
  iapply (out_any m c 4 17 8 3 0 _) $$ HS; iintro %v HS
  iapply (chunk_store m c (⟨1, Nat.le_of_ble_eq_true rfl⟩ : Fin 8) (by decide) 4 17 8 3 0 (by decide) (by decide +kernel) _ _ (off10_chunk (⟨0, Nat.le_of_ble_eq_true rfl⟩ : Fin 2) c) _ rfl) $$ HS; iintro HS
  iapply (recv_step m K c (⟨8, Nat.le_of_ble_eq_true rfl⟩ : Fin 25) 4 17 4 (by decide +kernel) (by decide +kernel) 64 (by decide +kernel) _ _ _ _ _ (up_recv (⟨4, Nat.le_of_ble_eq_true rfl⟩ : Fin 12) _)) $$ [HS]
  · isplitr; · iexact HR
    iexact HS
  iintro HS
  iapply (send_step m K c (⟨17, Nat.le_of_ble_eq_true rfl⟩ : Fin 25) 4 9 4 (by decide +kernel) _ (dev_dst (⟨17, Nat.le_of_ble_eq_true rfl⟩ : Fin 25) c) 64 (by decide +kernel) _ (off2_row (⟨2, Nat.le_of_ble_eq_true rfl⟩ : Fin 3) (⟨0, Nat.le_of_ble_eq_true rfl⟩ : Fin 4) c) _ _ _ _ (up_send (⟨8, Nat.le_of_ble_eq_true rfl⟩ : Fin 12) _) (up_recv (⟨8, Nat.le_of_ble_eq_true rfl⟩ : Fin 12) _)) $$ [HS]
  · isplitr; · iexact HR
    iexact HS
  iintro HS
  iapply (WP_ret c)
  iapply Hk; iexact HS

/-- Part 15 of the body: the device waits for the arrival of transfer 9; starts transfer 18; waits for the arrival
    of transfer 10. -/
theorem part15 (v5 : BitVec 32) (v10 : BitVec 32) (v15 : BitVec 32) {Q : _ → sProp 𝕄} :
    iprop(Rec m K ∗ St m c 4 18 9 4 0)
      ⊢ iprop((∀ a, St m c 4 19 11 4 0 -∗ Q a)
          -∗ WP c (k0_part15 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v10 v15) Q) := by
  simp only [k0_part15_eq_skeleton]; unfold k0_part15_skel
  simp only [Prog.lift, Prog.bind_op, Prog.bind_ret, Prog.pure_eq_ret]
  iintro ⟨#HR, HS⟩ Hk
  iapply (recv_step m K c (⟨9, Nat.le_of_ble_eq_true rfl⟩ : Fin 25) 4 18 4 (by decide +kernel) (by decide +kernel) 64 (by decide +kernel) _ _ _ _ _ (down_recv (⟨4, Nat.le_of_ble_eq_true rfl⟩ : Fin 12) _)) $$ [HS]
  · isplitr; · iexact HR
    iexact HS
  iintro HS
  iapply (send_step m K c (⟨18, Nat.le_of_ble_eq_true rfl⟩ : Fin 25) 4 10 4 (by decide +kernel) _ (dev_dst (⟨18, Nat.le_of_ble_eq_true rfl⟩ : Fin 25) c) 64 (by decide +kernel) _ (off3_row (⟨2, Nat.le_of_ble_eq_true rfl⟩ : Fin 3) (⟨0, Nat.le_of_ble_eq_true rfl⟩ : Fin 4) c) _ _ _ _ (down_send (⟨8, Nat.le_of_ble_eq_true rfl⟩ : Fin 12) _) (down_recv (⟨8, Nat.le_of_ble_eq_true rfl⟩ : Fin 12) _)) $$ [HS]
  · isplitr; · iexact HR
    iexact HS
  iintro HS
  iapply (recv_step m K c (⟨10, Nat.le_of_ble_eq_true rfl⟩ : Fin 25) 4 19 4 (by decide +kernel) (by decide +kernel) 64 (by decide +kernel) _ _ _ _ _ (up_recv (⟨5, Nat.le_of_ble_eq_true rfl⟩ : Fin 12) _)) $$ [HS]
  · isplitr; · iexact HR
    iexact HS
  iintro HS
  iapply (WP_ret c)
  iapply Hk; iexact HS

/-- Part 16 of the body: the device starts transfer 19; waits for the arrival of transfer 11. -/
theorem part16 (v5 : BitVec 32) (v10 : BitVec 32) (v15 : BitVec 32) (v467 : BitVec 32) (v468 : BitVec 1) {Q : _ → sProp 𝕄} :
    iprop(Rec m K ∗ St m c 4 19 11 4 0)
      ⊢ iprop((∀ a, St m c 4 20 12 4 0 -∗ Q a)
          -∗ WP c (k0_part16 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v10 v15 v467 v468) Q) := by
  simp only [k0_part16_eq_skeleton]; unfold k0_part16_skel
  simp only [Prog.lift, Prog.bind_op, Prog.bind_ret, Prog.pure_eq_ret]
  iintro ⟨#HR, HS⟩ Hk
  iapply (send_step m K c (⟨19, Nat.le_of_ble_eq_true rfl⟩ : Fin 25) 4 11 4 (by decide +kernel) _ (dev_dst (⟨19, Nat.le_of_ble_eq_true rfl⟩ : Fin 25) c) 64 (by decide +kernel) _ (off2_row (⟨2, Nat.le_of_ble_eq_true rfl⟩ : Fin 3) (⟨1, Nat.le_of_ble_eq_true rfl⟩ : Fin 4) c) _ _ _ _ (up_send (⟨9, Nat.le_of_ble_eq_true rfl⟩ : Fin 12) _) (up_recv (⟨9, Nat.le_of_ble_eq_true rfl⟩ : Fin 12) _)) $$ [HS]
  · isplitr; · iexact HR
    iexact HS
  iintro HS
  iapply (recv_step m K c (⟨11, Nat.le_of_ble_eq_true rfl⟩ : Fin 25) 4 20 4 (by decide +kernel) (by decide +kernel) 64 (by decide +kernel) _ _ _ _ _ (down_recv (⟨5, Nat.le_of_ble_eq_true rfl⟩ : Fin 12) _)) $$ [HS]
  · isplitr; · iexact HR
    iexact HS
  iintro HS
  iapply (WP_ret c)
  iapply Hk; iexact HS

/-- Part 17 of the body: the device starts transfer 20; waits for the arrival of transfer 12; starts transfer 21;
    waits for the arrival of transfer 13. -/
theorem part17 (v5 : BitVec 32) (v10 : BitVec 32) (v15 : BitVec 32) {Q : _ → sProp 𝕄} :
    iprop(Rec m K ∗ St m c 4 20 12 4 0)
      ⊢ iprop((∀ a, St m c 4 22 14 4 0 -∗ Q a)
          -∗ WP c (k0_part17 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v10 v15) Q) := by
  simp only [k0_part17_eq_skeleton]; unfold k0_part17_skel
  simp only [Prog.lift, Prog.bind_op, Prog.bind_ret, Prog.pure_eq_ret]
  iintro ⟨#HR, HS⟩ Hk
  iapply (send_step m K c (⟨20, Nat.le_of_ble_eq_true rfl⟩ : Fin 25) 4 12 4 (by decide +kernel) _ (dev_dst (⟨20, Nat.le_of_ble_eq_true rfl⟩ : Fin 25) c) 64 (by decide +kernel) _ (off3_row (⟨2, Nat.le_of_ble_eq_true rfl⟩ : Fin 3) (⟨1, Nat.le_of_ble_eq_true rfl⟩ : Fin 4) c) _ _ _ _ (down_send (⟨9, Nat.le_of_ble_eq_true rfl⟩ : Fin 12) _) (down_recv (⟨9, Nat.le_of_ble_eq_true rfl⟩ : Fin 12) _)) $$ [HS]
  · isplitr; · iexact HR
    iexact HS
  iintro HS
  iapply (recv_step m K c (⟨12, Nat.le_of_ble_eq_true rfl⟩ : Fin 25) 4 21 4 (by decide +kernel) (by decide +kernel) 64 (by decide +kernel) _ _ _ _ _ (up_recv (⟨6, Nat.le_of_ble_eq_true rfl⟩ : Fin 12) _)) $$ [HS]
  · isplitr; · iexact HR
    iexact HS
  iintro HS
  iapply (send_step m K c (⟨21, Nat.le_of_ble_eq_true rfl⟩ : Fin 25) 4 13 4 (by decide +kernel) _ (dev_dst (⟨21, Nat.le_of_ble_eq_true rfl⟩ : Fin 25) c) 64 (by decide +kernel) _ (off2_row (⟨2, Nat.le_of_ble_eq_true rfl⟩ : Fin 3) (⟨2, Nat.le_of_ble_eq_true rfl⟩ : Fin 4) c) _ _ _ _ (up_send (⟨10, Nat.le_of_ble_eq_true rfl⟩ : Fin 12) _) (up_recv (⟨10, Nat.le_of_ble_eq_true rfl⟩ : Fin 12) _)) $$ [HS]
  · isplitr; · iexact HR
    iexact HS
  iintro HS
  iapply (recv_step m K c (⟨13, Nat.le_of_ble_eq_true rfl⟩ : Fin 25) 4 22 4 (by decide +kernel) (by decide +kernel) 64 (by decide +kernel) _ _ _ _ _ (down_recv (⟨6, Nat.le_of_ble_eq_true rfl⟩ : Fin 12) _)) $$ [HS]
  · isplitr; · iexact HR
    iexact HS
  iintro HS
  iapply (WP_ret c)
  iapply Hk; iexact HS

/-- Part 18 of the body: the device starts transfer 22; waits for the arrival of transfer 14. -/
theorem part18 (v5 : BitVec 32) (v10 : BitVec 32) (v15 : BitVec 32) (c2_i32_418 : BitVec 32) {Q : _ → sProp 𝕄} :
    iprop(Rec m K ∗ St m c 4 22 14 4 0)
      ⊢ iprop((∀ a, St m c 4 23 15 4 0 -∗ Q a)
          -∗ WP c (k0_part18 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v10 v15 c2_i32_418) Q) := by
  simp only [k0_part18_eq_skeleton]; unfold k0_part18_skel
  simp only [Prog.lift, Prog.bind_op, Prog.bind_ret, Prog.pure_eq_ret]
  iintro ⟨#HR, HS⟩ Hk
  iapply (send_step m K c (⟨22, Nat.le_of_ble_eq_true rfl⟩ : Fin 25) 4 14 4 (by decide +kernel) _ (dev_dst (⟨22, Nat.le_of_ble_eq_true rfl⟩ : Fin 25) c) 64 (by decide +kernel) _ (off3_row (⟨2, Nat.le_of_ble_eq_true rfl⟩ : Fin 3) (⟨2, Nat.le_of_ble_eq_true rfl⟩ : Fin 4) c) _ _ _ _ (down_send (⟨10, Nat.le_of_ble_eq_true rfl⟩ : Fin 12) _) (down_recv (⟨10, Nat.le_of_ble_eq_true rfl⟩ : Fin 12) _)) $$ [HS]
  · isplitr; · iexact HR
    iexact HS
  iintro HS
  iapply (recv_step m K c (⟨14, Nat.le_of_ble_eq_true rfl⟩ : Fin 25) 4 23 4 (by decide +kernel) (by decide +kernel) 64 (by decide +kernel) _ _ _ _ _ (up_recv (⟨7, Nat.le_of_ble_eq_true rfl⟩ : Fin 12) _)) $$ [HS]
  · isplitr; · iexact HR
    iexact HS
  iintro HS
  iapply (WP_ret c)
  iapply Hk; iexact HS

/-- Part 19 of the body: the device starts transfer 23; waits for the arrival of transfer 15; starts transfer 24. -/
theorem part19 (v5 : BitVec 32) (v15 : BitVec 32) (v559 : BitVec 32) (c0_i32_446 : BitVec 32) {Q : _ → sProp 𝕄} :
    iprop(Rec m K ∗ St m c 4 23 15 4 0)
      ⊢ iprop((∀ a, St m c 4 25 16 4 0 -∗ Q a)
          -∗ WP c (k0_part19 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v15 v559 c0_i32_446) Q) := by
  simp only [k0_part19_eq_skeleton]; unfold k0_part19_skel
  simp only [Prog.lift, Prog.bind_op, Prog.bind_ret, Prog.pure_eq_ret]
  iintro ⟨#HR, HS⟩ Hk
  iapply (send_step m K c (⟨23, Nat.le_of_ble_eq_true rfl⟩ : Fin 25) 4 15 4 (by decide +kernel) _ (dev_dst (⟨23, Nat.le_of_ble_eq_true rfl⟩ : Fin 25) c) 64 (by decide +kernel) _ (off2_row (⟨2, Nat.le_of_ble_eq_true rfl⟩ : Fin 3) (⟨3, Nat.le_of_ble_eq_true rfl⟩ : Fin 4) c) _ _ _ _ (up_send (⟨11, Nat.le_of_ble_eq_true rfl⟩ : Fin 12) _) (up_recv (⟨11, Nat.le_of_ble_eq_true rfl⟩ : Fin 12) _)) $$ [HS]
  · isplitr; · iexact HR
    iexact HS
  iintro HS
  iapply (recv_step m K c (⟨15, Nat.le_of_ble_eq_true rfl⟩ : Fin 25) 4 24 4 (by decide +kernel) (by decide +kernel) 64 (by decide +kernel) _ _ _ _ _ (down_recv (⟨7, Nat.le_of_ble_eq_true rfl⟩ : Fin 12) _)) $$ [HS]
  · isplitr; · iexact HR
    iexact HS
  iintro HS
  iapply (send_step m K c (⟨24, Nat.le_of_ble_eq_true rfl⟩ : Fin 25) 4 16 4 (by decide +kernel) _ (dev_dst (⟨24, Nat.le_of_ble_eq_true rfl⟩ : Fin 25) c) 64 (by decide +kernel) _ (off3_row (⟨2, Nat.le_of_ble_eq_true rfl⟩ : Fin 3) (⟨3, Nat.le_of_ble_eq_true rfl⟩ : Fin 4) c) _ _ _ _ (down_send (⟨11, Nat.le_of_ble_eq_true rfl⟩ : Fin 12) _) (down_recv (⟨11, Nat.le_of_ble_eq_true rfl⟩ : Fin 12) _)) $$ [HS]
  · isplitr; · iexact HR
    iexact HS
  iintro HS
  iapply (WP_ret c)
  iapply Hk; iexact HS

/-- Part 20 of the body: the device multiplies the chunks at distances 6 and 2; waits for the arrival of transfer
    16. -/
theorem part20 (v5 : BitVec 32) (v24 : BitVec 32) (v590 : BitVec 32) (v591 : BitVec 1) (c11_i32_471 : BitVec 32) {Q : _ → sProp 𝕄} :
    iprop(Rec m K ∗ St m c 4 25 16 4 0)
      ⊢ iprop((∀ a, St m c 4 25 17 6 0 -∗ Q a)
          -∗ WP c (k0_part20 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v24 v590 v591 c11_i32_471) Q) := by
  simp only [k0_part20_eq_skeleton]; unfold k0_part20_skel
  simp only [Prog.lift, Prog.bind_op, Prog.bind_ret, Prog.pure_eq_ret]
  iintro ⟨#HR, HS⟩ Hk
  iapply (chunk_load m c (⟨6, Nat.le_of_ble_eq_true rfl⟩ : Fin 8) 4 25 16 4 0 (by decide +kernel) _ _ (off7_chunk (⟨1, Nat.le_of_ble_eq_true rfl⟩ : Fin 2) c)) $$ HS; iintro HS
  iapply (wb_step m c 4 25 16 4 0 (by decide) _ _ hz) $$ HS; iintro HS
  iapply (out_any m c 4 25 16 4 0 _) $$ HS; iintro %v HS
  iapply (chunk_store m c (⟨6, Nat.le_of_ble_eq_true rfl⟩ : Fin 8) (by decide) 4 25 16 4 0 (by decide) (by decide +kernel) _ _ (off8_chunk (⟨1, Nat.le_of_ble_eq_true rfl⟩ : Fin 2) c) _ rfl) $$ HS; iintro HS
  iapply (chunk_load m c (⟨2, Nat.le_of_ble_eq_true rfl⟩ : Fin 8) 4 25 16 5 0 (by decide +kernel) _ _ (off9_chunk (⟨1, Nat.le_of_ble_eq_true rfl⟩ : Fin 2) c)) $$ HS; iintro HS
  iapply (wb_step m c 4 25 16 5 0 (by decide) _ _ hz) $$ HS; iintro HS
  iapply (out_any m c 4 25 16 5 0 _) $$ HS; iintro %v HS
  iapply (chunk_store m c (⟨2, Nat.le_of_ble_eq_true rfl⟩ : Fin 8) (by decide) 4 25 16 5 0 (by decide) (by decide +kernel) _ _ (off10_chunk (⟨1, Nat.le_of_ble_eq_true rfl⟩ : Fin 2) c) _ rfl) $$ HS; iintro HS
  iapply (recv_step m K c (⟨16, Nat.le_of_ble_eq_true rfl⟩ : Fin 25) 4 25 6 (by decide +kernel) (by decide +kernel) 256 (by decide +kernel) _ _ _ _ _ chord_recv) $$ [HS]
  · isplitr; · iexact HR
    iexact HS
  iintro HS
  iapply (WP_ret c)
  iapply Hk; iexact HS

/-- Part 21 of the body: the device multiplies the chunk at distance 4; waits for the arrival of transfer 17. -/
theorem part21 (v5 : BitVec 32) (v10 : BitVec 32) {Q : _ → sProp 𝕄} :
    iprop(Rec m K ∗ St m c 4 25 17 6 0)
      ⊢ iprop((∀ a, St m c 4 25 18 7 0 -∗ Q a)
          -∗ WP c (k0_part21 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v10) Q) := by
  simp only [k0_part21_eq_skeleton]; unfold k0_part21_skel
  simp only [Prog.lift, Prog.bind_op, Prog.bind_ret, Prog.pure_eq_ret]
  iintro ⟨#HR, HS⟩ Hk
  iapply (chunk_load m c (⟨4, Nat.le_of_ble_eq_true rfl⟩ : Fin 8) 4 25 17 6 0 (by decide +kernel) _ _ (off11_chunk c)) $$ HS; iintro HS
  iapply (wb_step m c 4 25 17 6 0 (by decide) _ _ hz) $$ HS; iintro HS
  iapply (out_any m c 4 25 17 6 0 _) $$ HS; iintro %v HS
  iapply (chunk_store m c (⟨4, Nat.le_of_ble_eq_true rfl⟩ : Fin 8) (by decide) 4 25 17 6 0 (by decide) (by decide +kernel) _ _ (off12_chunk c) _ rfl) $$ HS; iintro HS
  iapply (recv_step m K c (⟨17, Nat.le_of_ble_eq_true rfl⟩ : Fin 25) 4 25 7 (by decide +kernel) (by decide +kernel) 64 (by decide +kernel) _ _ _ _ _ (up_recv (⟨8, Nat.le_of_ble_eq_true rfl⟩ : Fin 12) _)) $$ [HS]
  · isplitr; · iexact HR
    iexact HS
  iintro HS
  iapply (WP_ret c)
  iapply Hk; iexact HS

/-- Part 22 of the body: the device multiplies the chunk at distance 5, quarter 0; waits for the arrival of
    transfer 18; multiplies the chunk at distance 3, quarter 0. -/
theorem part22 (v10 : BitVec 32) (v15 : BitVec 32) (v647 : BitVec 32) (v654 : BitVec 32) (c0_i32_523 : BitVec 32) {Q : _ → sProp 𝕄} :
    iprop(Rec m K ∗ St m c 4 25 18 7 0)
      ⊢ iprop((∀ a, St m c 4 25 19 9 0 -∗ Q a)
          -∗ WP c (k0_part22 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v10 v15 v647 v654 c0_i32_523) Q) := by
  simp only [k0_part22_eq_skeleton]; unfold k0_part22_skel
  simp only [Prog.lift, Prog.bind_op, Prog.bind_ret, Prog.pure_eq_ret]
  iintro ⟨#HR, HS⟩ Hk
  iapply (quarter_load m c (⟨5, Nat.le_of_ble_eq_true rfl⟩ : Fin 8) (⟨0, Nat.le_of_ble_eq_true rfl⟩ : Fin 4) 4 25 18 7 0 (by decide +kernel) _ _ (off13_quarter (⟨5, Nat.le_of_ble_eq_true rfl⟩ : Fin 8) (⟨0, Nat.le_of_ble_eq_true rfl⟩ : Fin 4) c)) $$ HS; iintro HS
  iapply (wb_step m c 4 25 18 7 0 (by decide) _ _ hz) $$ HS; iintro HS
  iapply (out_any m c 4 25 18 7 0 _) $$ HS; iintro %v HS
  iapply (quarter_store m c (⟨5, Nat.le_of_ble_eq_true rfl⟩ : Fin 8) (⟨0, Nat.le_of_ble_eq_true rfl⟩ : Fin 4) (by decide) 4 25 18 7 0 (by decide) (by decide +kernel) _ _ (off14_quarter (⟨5, Nat.le_of_ble_eq_true rfl⟩ : Fin 8) (⟨0, Nat.le_of_ble_eq_true rfl⟩ : Fin 4) c) _ rfl) $$ HS; iintro HS
  iapply (recv_step m K c (⟨18, Nat.le_of_ble_eq_true rfl⟩ : Fin 25) 4 25 8 (by decide +kernel) (by decide +kernel) 64 (by decide +kernel) _ _ _ _ _ (down_recv (⟨8, Nat.le_of_ble_eq_true rfl⟩ : Fin 12) _)) $$ [HS]
  · isplitr; · iexact HR
    iexact HS
  iintro HS
  iapply (quarter_load m c (⟨3, Nat.le_of_ble_eq_true rfl⟩ : Fin 8) (⟨0, Nat.le_of_ble_eq_true rfl⟩ : Fin 4) 4 25 19 8 0 (by decide +kernel) _ _ (off13_quarter (⟨3, Nat.le_of_ble_eq_true rfl⟩ : Fin 8) (⟨0, Nat.le_of_ble_eq_true rfl⟩ : Fin 4) c)) $$ HS; iintro HS
  iapply (wb_step m c 4 25 19 8 0 (by decide) _ _ hz) $$ HS; iintro HS
  iapply (out_any m c 4 25 19 8 0 _) $$ HS; iintro %v HS
  iapply (quarter_store m c (⟨3, Nat.le_of_ble_eq_true rfl⟩ : Fin 8) (⟨0, Nat.le_of_ble_eq_true rfl⟩ : Fin 4) (by decide) 4 25 19 8 0 (by decide) (by decide +kernel) _ _ (off14_quarter (⟨3, Nat.le_of_ble_eq_true rfl⟩ : Fin 8) (⟨0, Nat.le_of_ble_eq_true rfl⟩ : Fin 4) c) _ rfl) $$ HS; iintro HS
  iapply (WP_ret c)
  iapply Hk; iexact HS

/-- Part 23 of the body: the device waits for the arrival of transfer 19; multiplies the chunk at distance 5,
    quarter 1; waits for the arrival of transfer 20; multiplies the chunk at distance 3, quarter 1. -/
theorem part23 (v10 : BitVec 32) (v15 : BitVec 32) (v642 : BitVec 32) (v647 : BitVec 32) {Q : _ → sProp 𝕄} :
    iprop(Rec m K ∗ St m c 4 25 19 9 0)
      ⊢ iprop((∀ a, St m c 4 25 21 11 0 -∗ Q a)
          -∗ WP c (k0_part23 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v10 v15 v642 v647) Q) := by
  simp only [k0_part23_eq_skeleton]; unfold k0_part23_skel
  simp only [Prog.lift, Prog.bind_op, Prog.bind_ret, Prog.pure_eq_ret]
  iintro ⟨#HR, HS⟩ Hk
  iapply (recv_step m K c (⟨19, Nat.le_of_ble_eq_true rfl⟩ : Fin 25) 4 25 9 (by decide +kernel) (by decide +kernel) 64 (by decide +kernel) _ _ _ _ _ (up_recv (⟨9, Nat.le_of_ble_eq_true rfl⟩ : Fin 12) _)) $$ [HS]
  · isplitr; · iexact HR
    iexact HS
  iintro HS
  iapply (quarter_load m c (⟨5, Nat.le_of_ble_eq_true rfl⟩ : Fin 8) (⟨1, Nat.le_of_ble_eq_true rfl⟩ : Fin 4) 4 25 20 9 0 (by decide +kernel) _ _ (off13_quarter (⟨5, Nat.le_of_ble_eq_true rfl⟩ : Fin 8) (⟨1, Nat.le_of_ble_eq_true rfl⟩ : Fin 4) c)) $$ HS; iintro HS
  iapply (wb_step m c 4 25 20 9 0 (by decide) _ _ hz) $$ HS; iintro HS
  iapply (out_any m c 4 25 20 9 0 _) $$ HS; iintro %v HS
  iapply (quarter_store m c (⟨5, Nat.le_of_ble_eq_true rfl⟩ : Fin 8) (⟨1, Nat.le_of_ble_eq_true rfl⟩ : Fin 4) (by decide) 4 25 20 9 0 (by decide) (by decide +kernel) _ _ (off14_quarter (⟨5, Nat.le_of_ble_eq_true rfl⟩ : Fin 8) (⟨1, Nat.le_of_ble_eq_true rfl⟩ : Fin 4) c) _ rfl) $$ HS; iintro HS
  iapply (recv_step m K c (⟨20, Nat.le_of_ble_eq_true rfl⟩ : Fin 25) 4 25 10 (by decide +kernel) (by decide +kernel) 64 (by decide +kernel) _ _ _ _ _ (down_recv (⟨9, Nat.le_of_ble_eq_true rfl⟩ : Fin 12) _)) $$ [HS]
  · isplitr; · iexact HR
    iexact HS
  iintro HS
  iapply (quarter_load m c (⟨3, Nat.le_of_ble_eq_true rfl⟩ : Fin 8) (⟨1, Nat.le_of_ble_eq_true rfl⟩ : Fin 4) 4 25 21 10 0 (by decide +kernel) _ _ (off13_quarter (⟨3, Nat.le_of_ble_eq_true rfl⟩ : Fin 8) (⟨1, Nat.le_of_ble_eq_true rfl⟩ : Fin 4) c)) $$ HS; iintro HS
  iapply (wb_step m c 4 25 21 10 0 (by decide) _ _ hz) $$ HS; iintro HS
  iapply (out_any m c 4 25 21 10 0 _) $$ HS; iintro %v HS
  iapply (quarter_store m c (⟨3, Nat.le_of_ble_eq_true rfl⟩ : Fin 8) (⟨1, Nat.le_of_ble_eq_true rfl⟩ : Fin 4) (by decide) 4 25 21 10 0 (by decide) (by decide +kernel) _ _ (off14_quarter (⟨3, Nat.le_of_ble_eq_true rfl⟩ : Fin 8) (⟨1, Nat.le_of_ble_eq_true rfl⟩ : Fin 4) c) _ rfl) $$ HS; iintro HS
  iapply (WP_ret c)
  iapply Hk; iexact HS

/-- Part 24 of the body: the device waits for the arrival of transfer 21; multiplies the chunk at distance 5,
    quarter 2; waits for the arrival of transfer 22; multiplies the chunk at distance 3, quarter 2. -/
theorem part24 (v10 : BitVec 32) (v15 : BitVec 32) (v642 : BitVec 32) (v647 : BitVec 32) {Q : _ → sProp 𝕄} :
    iprop(Rec m K ∗ St m c 4 25 21 11 0)
      ⊢ iprop((∀ a, St m c 4 25 23 13 0 -∗ Q a)
          -∗ WP c (k0_part24 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v10 v15 v642 v647) Q) := by
  simp only [k0_part24_eq_skeleton]; unfold k0_part24_skel
  simp only [Prog.lift, Prog.bind_op, Prog.bind_ret, Prog.pure_eq_ret]
  iintro ⟨#HR, HS⟩ Hk
  iapply (recv_step m K c (⟨21, Nat.le_of_ble_eq_true rfl⟩ : Fin 25) 4 25 11 (by decide +kernel) (by decide +kernel) 64 (by decide +kernel) _ _ _ _ _ (up_recv (⟨10, Nat.le_of_ble_eq_true rfl⟩ : Fin 12) _)) $$ [HS]
  · isplitr; · iexact HR
    iexact HS
  iintro HS
  iapply (quarter_load m c (⟨5, Nat.le_of_ble_eq_true rfl⟩ : Fin 8) (⟨2, Nat.le_of_ble_eq_true rfl⟩ : Fin 4) 4 25 22 11 0 (by decide +kernel) _ _ (off13_quarter (⟨5, Nat.le_of_ble_eq_true rfl⟩ : Fin 8) (⟨2, Nat.le_of_ble_eq_true rfl⟩ : Fin 4) c)) $$ HS; iintro HS
  iapply (wb_step m c 4 25 22 11 0 (by decide) _ _ hz) $$ HS; iintro HS
  iapply (out_any m c 4 25 22 11 0 _) $$ HS; iintro %v HS
  iapply (quarter_store m c (⟨5, Nat.le_of_ble_eq_true rfl⟩ : Fin 8) (⟨2, Nat.le_of_ble_eq_true rfl⟩ : Fin 4) (by decide) 4 25 22 11 0 (by decide) (by decide +kernel) _ _ (off14_quarter (⟨5, Nat.le_of_ble_eq_true rfl⟩ : Fin 8) (⟨2, Nat.le_of_ble_eq_true rfl⟩ : Fin 4) c) _ rfl) $$ HS; iintro HS
  iapply (recv_step m K c (⟨22, Nat.le_of_ble_eq_true rfl⟩ : Fin 25) 4 25 12 (by decide +kernel) (by decide +kernel) 64 (by decide +kernel) _ _ _ _ _ (down_recv (⟨10, Nat.le_of_ble_eq_true rfl⟩ : Fin 12) _)) $$ [HS]
  · isplitr; · iexact HR
    iexact HS
  iintro HS
  iapply (quarter_load m c (⟨3, Nat.le_of_ble_eq_true rfl⟩ : Fin 8) (⟨2, Nat.le_of_ble_eq_true rfl⟩ : Fin 4) 4 25 23 12 0 (by decide +kernel) _ _ (off13_quarter (⟨3, Nat.le_of_ble_eq_true rfl⟩ : Fin 8) (⟨2, Nat.le_of_ble_eq_true rfl⟩ : Fin 4) c)) $$ HS; iintro HS
  iapply (wb_step m c 4 25 23 12 0 (by decide) _ _ hz) $$ HS; iintro HS
  iapply (out_any m c 4 25 23 12 0 _) $$ HS; iintro %v HS
  iapply (quarter_store m c (⟨3, Nat.le_of_ble_eq_true rfl⟩ : Fin 8) (⟨2, Nat.le_of_ble_eq_true rfl⟩ : Fin 4) (by decide) 4 25 23 12 0 (by decide) (by decide +kernel) _ _ (off14_quarter (⟨3, Nat.le_of_ble_eq_true rfl⟩ : Fin 8) (⟨2, Nat.le_of_ble_eq_true rfl⟩ : Fin 4) c) _ rfl) $$ HS; iintro HS
  iapply (WP_ret c)
  iapply Hk; iexact HS

/-- Part 25 of the body: the device waits for the arrival of transfer 23; multiplies the chunk at distance 5,
    quarter 3; waits for the arrival of transfer 24; multiplies the chunk at distance 3, quarter 3. -/
theorem part25 (v15 : BitVec 32) (v642 : BitVec 32) (v647 : BitVec 32) (v744 : BitVec 32) {Q : _ → sProp 𝕄} :
    iprop(Rec m K ∗ St m c 4 25 23 13 0)
      ⊢ iprop((∀ a, St m c 4 25 25 15 0 -∗ Q a)
          -∗ WP c (k0_part25 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v15 v642 v647 v744) Q) := by
  simp only [k0_part25_eq_skeleton]; unfold k0_part25_skel
  simp only [Prog.lift, Prog.bind_op, Prog.bind_ret, Prog.pure_eq_ret]
  iintro ⟨#HR, HS⟩ Hk
  iapply (recv_step m K c (⟨23, Nat.le_of_ble_eq_true rfl⟩ : Fin 25) 4 25 13 (by decide +kernel) (by decide +kernel) 64 (by decide +kernel) _ _ _ _ _ (up_recv (⟨11, Nat.le_of_ble_eq_true rfl⟩ : Fin 12) _)) $$ [HS]
  · isplitr; · iexact HR
    iexact HS
  iintro HS
  iapply (quarter_load m c (⟨5, Nat.le_of_ble_eq_true rfl⟩ : Fin 8) (⟨3, Nat.le_of_ble_eq_true rfl⟩ : Fin 4) 4 25 24 13 0 (by decide +kernel) _ _ (off13_quarter (⟨5, Nat.le_of_ble_eq_true rfl⟩ : Fin 8) (⟨3, Nat.le_of_ble_eq_true rfl⟩ : Fin 4) c)) $$ HS; iintro HS
  iapply (wb_step m c 4 25 24 13 0 (by decide) _ _ hz) $$ HS; iintro HS
  iapply (out_any m c 4 25 24 13 0 _) $$ HS; iintro %v HS
  iapply (quarter_store m c (⟨5, Nat.le_of_ble_eq_true rfl⟩ : Fin 8) (⟨3, Nat.le_of_ble_eq_true rfl⟩ : Fin 4) (by decide) 4 25 24 13 0 (by decide) (by decide +kernel) _ _ (off14_quarter (⟨5, Nat.le_of_ble_eq_true rfl⟩ : Fin 8) (⟨3, Nat.le_of_ble_eq_true rfl⟩ : Fin 4) c) _ rfl) $$ HS; iintro HS
  iapply (recv_step m K c (⟨24, Nat.le_of_ble_eq_true rfl⟩ : Fin 25) 4 25 14 (by decide +kernel) (by decide +kernel) 64 (by decide +kernel) _ _ _ _ _ (down_recv (⟨11, Nat.le_of_ble_eq_true rfl⟩ : Fin 12) _)) $$ [HS]
  · isplitr; · iexact HR
    iexact HS
  iintro HS
  iapply (quarter_load m c (⟨3, Nat.le_of_ble_eq_true rfl⟩ : Fin 8) (⟨3, Nat.le_of_ble_eq_true rfl⟩ : Fin 4) 4 25 25 14 0 (by decide +kernel) _ _ (off13_quarter (⟨3, Nat.le_of_ble_eq_true rfl⟩ : Fin 8) (⟨3, Nat.le_of_ble_eq_true rfl⟩ : Fin 4) c)) $$ HS; iintro HS
  iapply (wb_step m c 4 25 25 14 0 (by decide) _ _ hz) $$ HS; iintro HS
  iapply (out_any m c 4 25 25 14 0 _) $$ HS; iintro %v HS
  iapply (quarter_store m c (⟨3, Nat.le_of_ble_eq_true rfl⟩ : Fin 8) (⟨3, Nat.le_of_ble_eq_true rfl⟩ : Fin 4) (by decide) 4 25 25 14 0 (by decide) (by decide +kernel) _ _ (off14_quarter (⟨3, Nat.le_of_ble_eq_true rfl⟩ : Fin 8) (⟨3, Nat.le_of_ble_eq_true rfl⟩ : Fin 4) c) _ rfl) $$ HS; iintro HS
  iapply (WP_ret c)
  iapply Hk; iexact HS

/-- Part 26 of the body: the device waits for the sends of transfers 0, 1, 2, 3, 4 and 5. -/
theorem part26  {Q : _ → sProp 𝕄} :
    iprop(Rec m K ∗ St m c 4 25 25 15 0)
      ⊢ iprop((∀ a, St m c 4 25 25 15 6 -∗ Q a)
          -∗ WP c (k0_part26 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c ) Q) := by
  simp only [k0_part26_eq_skeleton]; unfold k0_part26_skel
  simp only [Prog.lift, Prog.bind_op, Prog.bind_ret, Prog.pure_eq_ret]
  iintro ⟨#HR, HS⟩ Hk
  iapply (back_step m K c (⟨0, Nat.le_of_ble_eq_true rfl⟩ : Fin 25) 15 (by decide +kernel) 64 (by decide +kernel) _ _ _ _ _ (up_send (⟨0, Nat.le_of_ble_eq_true rfl⟩ : Fin 12) _)) $$ [HS]
  · isplitr; · iexact HR
    iexact HS
  iintro HS
  iapply (back_step m K c (⟨1, Nat.le_of_ble_eq_true rfl⟩ : Fin 25) 15 (by decide +kernel) 64 (by decide +kernel) _ _ _ _ _ (down_send (⟨0, Nat.le_of_ble_eq_true rfl⟩ : Fin 12) _)) $$ [HS]
  · isplitr; · iexact HR
    iexact HS
  iintro HS
  iapply (back_step m K c (⟨2, Nat.le_of_ble_eq_true rfl⟩ : Fin 25) 15 (by decide +kernel) 64 (by decide +kernel) _ _ _ _ _ (up_send (⟨1, Nat.le_of_ble_eq_true rfl⟩ : Fin 12) _)) $$ [HS]
  · isplitr; · iexact HR
    iexact HS
  iintro HS
  iapply (back_step m K c (⟨3, Nat.le_of_ble_eq_true rfl⟩ : Fin 25) 15 (by decide +kernel) 64 (by decide +kernel) _ _ _ _ _ (down_send (⟨1, Nat.le_of_ble_eq_true rfl⟩ : Fin 12) _)) $$ [HS]
  · isplitr; · iexact HR
    iexact HS
  iintro HS
  iapply (back_step m K c (⟨4, Nat.le_of_ble_eq_true rfl⟩ : Fin 25) 15 (by decide +kernel) 64 (by decide +kernel) _ _ _ _ _ (up_send (⟨2, Nat.le_of_ble_eq_true rfl⟩ : Fin 12) _)) $$ [HS]
  · isplitr; · iexact HR
    iexact HS
  iintro HS
  iapply (back_step m K c (⟨5, Nat.le_of_ble_eq_true rfl⟩ : Fin 25) 15 (by decide +kernel) 64 (by decide +kernel) _ _ _ _ _ (down_send (⟨2, Nat.le_of_ble_eq_true rfl⟩ : Fin 12) _)) $$ [HS]
  · isplitr; · iexact HR
    iexact HS
  iintro HS
  iapply (WP_ret c)
  iapply Hk; iexact HS

/-- Part 27 of the body: the device waits for the sends of transfers 6, 7, 8, 9, 10 and 11. -/
theorem part27  {Q : _ → sProp 𝕄} :
    iprop(Rec m K ∗ St m c 4 25 25 15 6)
      ⊢ iprop((∀ a, St m c 4 25 25 15 12 -∗ Q a)
          -∗ WP c (k0_part27 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c ) Q) := by
  simp only [k0_part27_eq_skeleton]; unfold k0_part27_skel
  simp only [Prog.lift, Prog.bind_op, Prog.bind_ret, Prog.pure_eq_ret]
  iintro ⟨#HR, HS⟩ Hk
  iapply (back_step m K c (⟨6, Nat.le_of_ble_eq_true rfl⟩ : Fin 25) 15 (by decide +kernel) 64 (by decide +kernel) _ _ _ _ _ (up_send (⟨3, Nat.le_of_ble_eq_true rfl⟩ : Fin 12) _)) $$ [HS]
  · isplitr; · iexact HR
    iexact HS
  iintro HS
  iapply (back_step m K c (⟨7, Nat.le_of_ble_eq_true rfl⟩ : Fin 25) 15 (by decide +kernel) 64 (by decide +kernel) _ _ _ _ _ (down_send (⟨3, Nat.le_of_ble_eq_true rfl⟩ : Fin 12) _)) $$ [HS]
  · isplitr; · iexact HR
    iexact HS
  iintro HS
  iapply (back_step m K c (⟨8, Nat.le_of_ble_eq_true rfl⟩ : Fin 25) 15 (by decide +kernel) 64 (by decide +kernel) _ _ _ _ _ (up_send (⟨4, Nat.le_of_ble_eq_true rfl⟩ : Fin 12) _)) $$ [HS]
  · isplitr; · iexact HR
    iexact HS
  iintro HS
  iapply (back_step m K c (⟨9, Nat.le_of_ble_eq_true rfl⟩ : Fin 25) 15 (by decide +kernel) 64 (by decide +kernel) _ _ _ _ _ (down_send (⟨4, Nat.le_of_ble_eq_true rfl⟩ : Fin 12) _)) $$ [HS]
  · isplitr; · iexact HR
    iexact HS
  iintro HS
  iapply (back_step m K c (⟨10, Nat.le_of_ble_eq_true rfl⟩ : Fin 25) 15 (by decide +kernel) 64 (by decide +kernel) _ _ _ _ _ (up_send (⟨5, Nat.le_of_ble_eq_true rfl⟩ : Fin 12) _)) $$ [HS]
  · isplitr; · iexact HR
    iexact HS
  iintro HS
  iapply (back_step m K c (⟨11, Nat.le_of_ble_eq_true rfl⟩ : Fin 25) 15 (by decide +kernel) 64 (by decide +kernel) _ _ _ _ _ (down_send (⟨5, Nat.le_of_ble_eq_true rfl⟩ : Fin 12) _)) $$ [HS]
  · isplitr; · iexact HR
    iexact HS
  iintro HS
  iapply (WP_ret c)
  iapply Hk; iexact HS

/-- Part 28 of the body: the device waits for the sends of transfers 12, 13, 14, 15, 17 and 18. -/
theorem part28  {Q : _ → sProp 𝕄} :
    iprop(Rec m K ∗ St m c 4 25 25 15 12)
      ⊢ iprop((∀ a, St m c 4 25 25 15 18 -∗ Q a)
          -∗ WP c (k0_part28 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c ) Q) := by
  simp only [k0_part28_eq_skeleton]; unfold k0_part28_skel
  simp only [Prog.lift, Prog.bind_op, Prog.bind_ret, Prog.pure_eq_ret]
  iintro ⟨#HR, HS⟩ Hk
  iapply (back_step m K c (⟨12, Nat.le_of_ble_eq_true rfl⟩ : Fin 25) 15 (by decide +kernel) 64 (by decide +kernel) _ _ _ _ _ (up_send (⟨6, Nat.le_of_ble_eq_true rfl⟩ : Fin 12) _)) $$ [HS]
  · isplitr; · iexact HR
    iexact HS
  iintro HS
  iapply (back_step m K c (⟨13, Nat.le_of_ble_eq_true rfl⟩ : Fin 25) 15 (by decide +kernel) 64 (by decide +kernel) _ _ _ _ _ (down_send (⟨6, Nat.le_of_ble_eq_true rfl⟩ : Fin 12) _)) $$ [HS]
  · isplitr; · iexact HR
    iexact HS
  iintro HS
  iapply (back_step m K c (⟨14, Nat.le_of_ble_eq_true rfl⟩ : Fin 25) 15 (by decide +kernel) 64 (by decide +kernel) _ _ _ _ _ (up_send (⟨7, Nat.le_of_ble_eq_true rfl⟩ : Fin 12) _)) $$ [HS]
  · isplitr; · iexact HR
    iexact HS
  iintro HS
  iapply (back_step m K c (⟨15, Nat.le_of_ble_eq_true rfl⟩ : Fin 25) 15 (by decide +kernel) 64 (by decide +kernel) _ _ _ _ _ (down_send (⟨7, Nat.le_of_ble_eq_true rfl⟩ : Fin 12) _)) $$ [HS]
  · isplitr; · iexact HR
    iexact HS
  iintro HS
  iapply (back_step m K c (⟨17, Nat.le_of_ble_eq_true rfl⟩ : Fin 25) 15 (by decide +kernel) 64 (by decide +kernel) _ _ _ _ _ (up_send (⟨8, Nat.le_of_ble_eq_true rfl⟩ : Fin 12) _)) $$ [HS]
  · isplitr; · iexact HR
    iexact HS
  iintro HS
  iapply (back_step m K c (⟨18, Nat.le_of_ble_eq_true rfl⟩ : Fin 25) 15 (by decide +kernel) 64 (by decide +kernel) _ _ _ _ _ (down_send (⟨8, Nat.le_of_ble_eq_true rfl⟩ : Fin 12) _)) $$ [HS]
  · isplitr; · iexact HR
    iexact HS
  iintro HS
  iapply (WP_ret c)
  iapply Hk; iexact HS

/-- Part 29 of the body: the device waits for the sends of transfers 19, 20, 21, 22, 23 and 24. -/
theorem part29  {Q : _ → sProp 𝕄} :
    iprop(Rec m K ∗ St m c 4 25 25 15 18)
      ⊢ iprop((∀ a, St m c 4 25 25 15 24 -∗ Q a)
          -∗ WP c (k0_part29 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c ) Q) := by
  simp only [k0_part29_eq_skeleton]; unfold k0_part29_skel
  simp only [Prog.lift, Prog.bind_op, Prog.bind_ret, Prog.pure_eq_ret]
  iintro ⟨#HR, HS⟩ Hk
  iapply (back_step m K c (⟨19, Nat.le_of_ble_eq_true rfl⟩ : Fin 25) 15 (by decide +kernel) 64 (by decide +kernel) _ _ _ _ _ (up_send (⟨9, Nat.le_of_ble_eq_true rfl⟩ : Fin 12) _)) $$ [HS]
  · isplitr; · iexact HR
    iexact HS
  iintro HS
  iapply (back_step m K c (⟨20, Nat.le_of_ble_eq_true rfl⟩ : Fin 25) 15 (by decide +kernel) 64 (by decide +kernel) _ _ _ _ _ (down_send (⟨9, Nat.le_of_ble_eq_true rfl⟩ : Fin 12) _)) $$ [HS]
  · isplitr; · iexact HR
    iexact HS
  iintro HS
  iapply (back_step m K c (⟨21, Nat.le_of_ble_eq_true rfl⟩ : Fin 25) 15 (by decide +kernel) 64 (by decide +kernel) _ _ _ _ _ (up_send (⟨10, Nat.le_of_ble_eq_true rfl⟩ : Fin 12) _)) $$ [HS]
  · isplitr; · iexact HR
    iexact HS
  iintro HS
  iapply (back_step m K c (⟨22, Nat.le_of_ble_eq_true rfl⟩ : Fin 25) 15 (by decide +kernel) 64 (by decide +kernel) _ _ _ _ _ (down_send (⟨10, Nat.le_of_ble_eq_true rfl⟩ : Fin 12) _)) $$ [HS]
  · isplitr; · iexact HR
    iexact HS
  iintro HS
  iapply (back_step m K c (⟨23, Nat.le_of_ble_eq_true rfl⟩ : Fin 25) 15 (by decide +kernel) 64 (by decide +kernel) _ _ _ _ _ (up_send (⟨11, Nat.le_of_ble_eq_true rfl⟩ : Fin 12) _)) $$ [HS]
  · isplitr; · iexact HR
    iexact HS
  iintro HS
  iapply (back_step m K c (⟨24, Nat.le_of_ble_eq_true rfl⟩ : Fin 25) 15 (by decide +kernel) 64 (by decide +kernel) _ _ _ _ _ (down_send (⟨11, Nat.le_of_ble_eq_true rfl⟩ : Fin 12) _)) $$ [HS]
  · isplitr; · iexact HR
    iexact HS
  iintro HS
  iapply (WP_ret c)
  iapply Hk; iexact HS

end Cert.KernelIdeal.Hand

end
-- ==== Proof.Entry.lean ====
/- The barrier at the kernel's start: what a device holds before it, and how the rows its neighbours fill change hands. -/
module

public import proofs.«01_k».proof.Proof.Parts

@[expose] public section

set_option maxRecDepth 16384

noncomputable section

namespace Cert.KernelIdeal.Hand

open Cert.KernelIdeal Cert.KernelIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The gathered buffer, cut into its own quarters and the rows each arrival fills -/

/-- What arrives by different transfers lies in separate rows, -/
theorem in_apart : ∀ (c : Fin 8) (t t' : Fin 25), t ≠ t' → inLo c t + rowN t ≤ inLo c t' ∨ inLo c t' + rowN t' ≤ inLo c t := by decide +kernel
/-- and apart from the device's own chunk. -/
theorem in_own_apart : ∀ (c : Fin 8) (t : Fin 25), inLo c t + rowN t ≤ 256 * c.val ∨ 256 * c.val + 256 ≤ inLo c t := by decide +kernel
/-- Every row is one of the own chunk or of what some transfer brings. -/
theorem in_cover : ∀ (c : Fin 8) (n : Fin 32), 64 * n.val / 256 = c.val ∨ ∃ t : Fin 25, inLo c t ≤ 64 * n.val ∧ 64 * n.val + 64 ≤ inLo c t + rowN t := by
  decide +kernel

variable (K : Dev nD × CI → ℕ) (c : Dev nD)

/-- The rows of one piece: a quarter of the own chunk, or what a transfer fills. -/
def piece (x : Fin 4 ⊕ Fin 25) : Finset (cc0_scratch0 : Ref sig .tc).ty.Idx :=
  match x with | .inl p => rws (256 * c.val + 64 * p.val) 64 | .inr t => rws (inLo c t) (rowN t)

/-- The pieces do not overlap, -/
theorem piece_disj (x y : Fin 4 ⊕ Fin 25) (h : x ≠ y) : Disjoint (piece c x) (piece c y) := by
  refine Finset.disjoint_left.mpr fun i hi hi' => ?_
  rcases x with p | t <;> rcases y with p' | t'
  · have h1 := mem_rws.mp hi; have h2 := mem_rws.mp hi'
    exact h (congrArg Sum.inl (Fin.ext (by omega)))
  · have h1 := mem_rws.mp hi; have h2 := mem_rws.mp hi'; have h3 := in_own_apart c t'; have := p.isLt
    omega
  · have h1 := mem_rws.mp hi; have h2 := mem_rws.mp hi'; have h3 := in_own_apart c t; have := p'.isLt
    omega
  · have h1 := mem_rws.mp hi; have h2 := mem_rws.mp hi'
    have h3 := in_apart c t t' (fun e => h (congrArg Sum.inr e))
    omega

/-- and together they are the whole buffer. -/
theorem piece_cover : (Finset.univ : Finset (cc0_scratch0 : Ref sig .tc).ty.Idx) = Finset.univ.biUnion (piece c) := by
  ext i
  simp only [Finset.mem_univ, Finset.mem_biUnion, true_and, true_iff]
  have hi : (i 0).val < 2048 := (i 0).isLt
  rcases in_cover c ⟨(i 0).val / 64, by omega⟩ with h | ⟨t, h1, h2⟩
  · refine ⟨.inl ⟨((i 0).val - 256 * c.val) / 64, ?_⟩, mem_rws.mpr ?_⟩
    · dsimp only at h; omega
    · dsimp only at h ⊢; omega
  · refine ⟨.inr t, mem_rws.mpr ?_⟩
    dsimp only at h1 h2; omega

/-- What transfer `t` fills at device `e`, holding anything. -/
def room (e : Dev nD) (t : Fin 25) : sProp 𝕄 := iprop(∃ f, gP e (rws (inLo e t) (rowN t)) fullShare f)

/-- The gathered buffer splits into the device's own quarters and the rooms of the arrivals. -/
theorem gather_split (f : (cc0_scratch0 : Ref sig .tc).ty.Contents (Elt F)) :
    (gP c Finset.univ fullShare f : sProp 𝕄) ⊢ iprop(Own c 0 ∗ bigSep Finset.univ (room c)) := by
  have h : (gP c Finset.univ fullShare f : sProp 𝕄) = bigSep Finset.univ fun x => gP c (piece c x) fullShare f := by
    unfold gP
    conv_lhs => rw [piece_cover c]
    exact pointsTo_biUnion _ _ fun x _ y _ hne => piece_disj c x y hne
  rw [h, bigSep_univ_sum]
  have h1 : ∀ p : Fin 4, (gP c (piece c (.inl p)) fullShare f : sProp 𝕄) ⊢ ownItem c p := fun p => by
    unfold ownItem piece; iintro H; iexists f; iexact H
  have h2 : ∀ t : Fin 25, (gP c (piece c (.inr t)) fullShare f : sProp 𝕄) ⊢ room c t := fun t => by
    unfold room piece; iintro H; iexists f; iexact H
  refine BI.sep_mono ?_ (bigSep_mono fun t _ => h2 t)
  unfold Own
  rw [Finset.filter_true_of_mem fun _ _ => Nat.zero_le _]
  exact bigSep_mono fun p _ => h1 p

/-- A family over the transfers, direction by direction. -/
theorem by_direction (Φ : Fin 25 → sProp 𝕄) :
    bigSep Finset.univ Φ = bigSep Finset.univ fun d : Fin 3 => bigSep (Finset.univ.filter fun t : Fin 25 => kd t = d) Φ := by
  have h : (Finset.univ : Finset (Fin 25)) = (Finset.univ.filter fun t : Fin 25 => kd t = 0)
      ∪ ((Finset.univ.filter fun t : Fin 25 => kd t = 1) ∪ Finset.univ.filter fun t : Fin 25 => kd t = 2) := by decide +kernel
  conv_lhs => rw [h]
  rw [bigSep_union (by decide +kernel), bigSep_union (by decide +kernel), bigSep_fin3]
  rfl

/-- The room a device hands to its neighbour in direction `d`. -/
theorem barPay_give (d : Fin 3) : (barPay (nb c d) (opp d) : sProp 𝕄) = bigSep (Finset.univ.filter fun t : Fin 25 => kd t = opp d) (room c) := by
  unfold barPay
  rw [nb_opp]; rfl
/-- The rooms are what the device hands its three neighbours at the barrier. -/
theorem room_give : (bigSep Finset.univ (room c) : sProp 𝕄)
    = iprop(barPay (nb c 1) (opp 1) ∗ barPay (nb c 0) (opp 0) ∗ barPay (nb c 2) (opp 2)) := by
  rw [by_direction, bigSep_fin3, barPay_give, barPay_give, barPay_give]
  rfl
/-- What it gets from all three is the room its transfers need. -/
theorem room_take : (bigSep Finset.univ fun d : Fin 3 => barPay c d : sProp 𝕄) = bigSep Finset.univ fun t : Fin 25 => room (dst c t) t := by
  rw [by_direction]
  refine bigSep_congr fun d _ => ?_
  unfold barPay
  exact bigSep_congr fun t ht => by rw [show dst c t = nb c d from congrArg (nb c) (Finset.mem_filter.mp ht).2]; rfl

/-! ## Before the barrier -/

/-- What a device holds when its kernel starts. -/
def Before : sProp 𝕄 :=
  iprop((∃ W : Waits sig Unit, owes (c : Thread nD τ) (O₀ c) W)
    ∗ (bigSep Finset.univ fun d : Fin 3 => dutyTok ER (barCell (nb c d)) 0 (opp d))
    ∗ (bigSep Finset.univ fun t : Fin 25 => iprop(dutyTok ER (sendCell c t) 0 0 ∗ dutyTok ER (recvCell (dst c t) t) 0 0))
    ∗ cred (tallyAt (barCell c) () 3) ∗ atPos ER (barCell c) 0 ∅ 0 ∗ RCred c 0 ∗ RPos c 0 ∗ SPos c 0
    ∗ (∃ f, gP c Finset.univ fullShare f) ∗ (∃ f, wholeP c cc0_scratch1 f)
    ∗ wholeP c cc0_stg0_0 (xst m c) ∗ wholeP c cc0_stg1_0 (wst m c) ∗ (∃ f, wholeP c cc0_stg2_0 f))

/-- The tokens and the rooms received are what all twenty-five transfers need. -/
theorem ToSend_all : iprop((bigSep Finset.univ fun t : Fin 25 => iprop(dutyTok ER (sendCell c t) 0 0 ∗ dutyTok ER (recvCell (dst c t) t) 0 0))
      ∗ bigSep Finset.univ fun t : Fin 25 => room (dst c t) t) ⊢ (ToSend c 0 : sProp 𝕄) := by
  have h : iprop((bigSep Finset.univ fun t : Fin 25 => iprop(dutyTok ER (sendCell c t) 0 0 ∗ dutyTok ER (recvCell (dst c t) t) 0 0))
      ∗ bigSep Finset.univ fun t : Fin 25 => room (dst c t) t)
      = bigSep Finset.univ fun t : Fin 25 => (iprop((dutyTok ER (sendCell c t) 0 0 ∗ dutyTok ER (recvCell (dst c t) t) 0 0) ∗ room (dst c t) t) : sProp 𝕄) :=
    (bigSep_sep' _ _ _).symm
  rw [h]
  unfold ToSend
  rw [Finset.filter_true_of_mem fun _ _ => Nat.zero_le _]
  have h1 : ∀ t : Fin 25, (iprop((dutyTok ER (sendCell c t) 0 0 ∗ dutyTok ER (recvCell (dst c t) t) 0 0) ∗ room (dst c t) t) : sProp 𝕄) ⊢ sendItem c t := fun t => by
    unfold sendItem room
    iintro ⟨⟨H1, H2⟩, H3⟩
    isplitl [H1]; · iexact H1
    isplitl [H2] <;> iassumption
  exact bigSep_mono fun t _ => h1 t

/-- At the start no atom is held, -/
theorem Held_none : (Held m c 0 0 0 0 : sProp 𝕄) = iprop(emp) := by
  unfold Held
  have h : ∀ b, (Finset.univ.filter fun a : Atom => heldB b 0 0 0 0 a = true) = ∅ := by decide +kernel
  rw [h, bigSep_empty]; rfl
/-- and no send has a credit. -/
theorem SCred_none : (SCred c 0 0 : sProp 𝕄) = iprop(emp) := by
  unfold SCred
  rw [Finset.filter_false_of_mem fun t _ h => absurd h.1 (Nat.not_lt_zero _), bigSep_empty]; rfl

/-- The first barrier signal goes to the device before, -/
theorem dev1_nb : ∀ d : Dev nD, (⟨k0_dev1 d, k0_dev1_lt d⟩ : Dev nD) = nb d 1 := by decide +kernel
/-- the second to the next one, -/
theorem dev2_nb : ∀ d : Dev nD, (⟨k0_dev2 d, k0_dev2_lt d⟩ : Dev nD) = nb d 0 := by decide +kernel
/-- and the third to the chord's other end. -/
theorem dev3_nb : ∀ d : Dev nD, (⟨k0_dev3 d, k0_dev3_lt d⟩ : Dev nD) = nb d 2 := by decide +kernel

/-- A family over the three parties to a barrier is its three members. -/
theorem bar_toks (Φ : Fin 3 → sProp 𝕄) : bigSep Finset.univ Φ = iprop(Φ 0 ∗ Φ 1 ∗ Φ 2) := bigSep_fin3 Φ

/-- The barrier and the first quarter's store. -/
theorem part2 (v2 : BitVec 32) (v5 : BitVec 32) (v10 : BitVec 32) (v15 : BitVec 32) (v24 : BitVec 32) (c1_i32_16 : BitVec 32) {Q : _ → sProp 𝕄} :
    iprop(Rec m K ∗ Before m c)
      ⊢ iprop((∀ a, St m c 1 0 0 0 0 -∗ Q a)
          -∗ WP c (k0_part2 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v10 v15 v24 (SemArray.scalar (sig.barrier 0 rfl)) c1_i32_16) Q) := by
  simp only [k0_part2_eq_skeleton]; unfold k0_part2_skel
  simp only [semSignalWord, semWaitWord, Prog.lift, Prog.bind_op, Prog.bind_ret, Prog.pure_eq_ret]
  simp only [dev1_nb c, dev2_nb c, dev3_nb c]
  unfold Before
  rw [bar_toks]
  iintro ⟨#HR, ⟨%W, Ho⟩, ⟨Ht0, Ht1, Ht2⟩, Htx, HcB, HatB, Hrc, Hrp, Hsp, ⟨%fg, Hg⟩, ⟨%fw, Hwb⟩, Hx, Hw, ⟨%fo, Hob⟩⟩ Hk
  ihave Hg := (gather_split c fg) $$ Hg
  icases Hg with ⟨Hown, Hroom⟩
  ihave Hroom := (Entails.of_eq (room_give c)) $$ Hroom
  icases Hroom with ⟨Hr1, Hr0, Hr2⟩
  unfold O₀
  iapply (Rounds.wp_signal 𝒱₀ ER (Rd m) (c : Thread nD τ) none (dst := (nb c 1 : Thread nD τ)) (κ := K (nb c 1, none))
      (d := opp 1) (by rw [duties_bar]; exact Finset.mem_univ _) ((amount_bar m (nb c 1) (opp 1)).trans (by decide)) ()
      (owed c 0 + tallyAt (barCell (nb c 2)) () 1 + tallyAt (barCell (nb c 0)) () 1) rfl) $$ [Ho Ht1 Hr1]
  · isplitr; · iapply (Rec_inv m K (nb c 1, none)); iexact HR
    isplitl [Ho]; · iexact Ho
    isplitl [Ht1]; · iexact Ht1
    isplitl [Hr1]; · rw [payload_bar m (nb c 1) (opp 1)]; iexact Hr1
    iapply (Rec_reached m K (nb c 1, none)); iexact HR
  iintro Ho
  iapply (Rounds.wp_signal 𝒱₀ ER (Rd m) (c : Thread nD τ) none (dst := (nb c 0 : Thread nD τ)) (κ := K (nb c 0, none))
      (d := opp 0) (by rw [duties_bar]; exact Finset.mem_univ _) ((amount_bar m (nb c 0) (opp 0)).trans (by decide)) ()
      (owed c 0 + tallyAt (barCell (nb c 2)) () 1) rfl) $$ [Ho Ht0 Hr0]
  · isplitr; · iapply (Rec_inv m K (nb c 0, none)); iexact HR
    isplitl [Ho]; · iexact Ho
    isplitl [Ht0]; · iexact Ht0
    isplitl [Hr0]; · rw [payload_bar m (nb c 0) (opp 0)]; iexact Hr0
    iapply (Rec_reached m K (nb c 0, none)); iexact HR
  iintro Ho
  iapply (Rounds.wp_signal 𝒱₀ ER (Rd m) (c : Thread nD τ) none (dst := (nb c 2 : Thread nD τ)) (κ := K (nb c 2, none))
      (d := opp 2) (by rw [duties_bar]; exact Finset.mem_univ _) ((amount_bar m (nb c 2) (opp 2)).trans (by decide)) ()
      (owed c 0) rfl) $$ [Ho Ht2 Hr2]
  · isplitr; · iapply (Rec_inv m K (nb c 2, none)); iexact HR
    isplitl [Ho]; · iexact Ho
    isplitl [Ht2]; · iexact Ht2
    isplitl [Hr2]; · rw [payload_bar m (nb c 2) (opp 2)]; iexact Hr2
    iapply (Rec_reached m K (nb c 2, none)); iexact HR
  iintro Ho
  iapply (Rounds.wp_wait_rest_token 𝒱₀ ER (Rd m) (c : Thread nD τ) none (κ := K (c, none))
      (wpE_semWait_eq 𝒱₀ (c : Thread nD τ) none Set.univ) (Set.mem_univ _) () (O := owed c 0) (W := W) (R := 0) (m := 0) (T := ∅)
      (by rw [expect_bar]; decide)) $$ [HcB Ho HatB]
  · isplitr; · iapply (Rec_inv m K (c, none)); iexact HR
    isplitl [HcB]; · iexact HcB
    isplitl [Ho]; · iexact Ho
    isplitr; · iapply (mayWait_owed c 0 1 (.reg barS) rfl fun t _ => lvl_pos t); iapply (Rec_lev m K); iexact HR
    iexact HatB
  iintro ⟨Ho, HatB, -, Hpay⟩
  ihave Hp := (Entails.of_eq ((rest_bar m c).trans (room_take c))) $$ Hpay
  ihave Hts := (ToSend_all c) $$ [Htx Hp]
  · isplitl [Htx] <;> iassumption
  ihave HS := (show iprop(Owe c 0 ∗ ToSend c 0 ∗ RCred c 0 ∗ RPos c 0 ∗ SPos c 0 ∗ Own c 0
      ∗ wholeP c cc0_stg0_0 (xst m c) ∗ wholeP c cc0_stg1_0 (wst m c) ∗ wholeP c cc0_scratch1 fw ∗ wholeP c cc0_stg2_0 fo ∗ atPos ER (barCell c) 1 ∅ 0) ⊢ St m c 0 0 0 0 0 from by
    unfold St WB OB
    rw [Held_none, SCred_none]
    iintro ⟨Ho, Hts, Hrc, Hrp, Hsp, Hown, Hx, Hw, Hwb, Hob, HatB⟩
    isplitl [Ho]; · iexact Ho
    isplitl [Hts]; · iexact Hts
    isplitl [Hrc]; · iexact Hrc
    isplitl [Hrp]; · iexact Hrp
    isplitr; · iempintro
    isplitl [Hsp]; · iexact Hsp
    isplitl [Hown]; · iexact Hown
    isplitr; · iempintro
    isplitl [Hx]; · iexact Hx
    isplitl [Hw]; · iexact Hw
    isplitl [Hwb]
    · iexists fw
      isplitr; · (ipureintro; exact fun h => absurd h (by decide))
      iexact Hwb
    isplitl [Hob]
    · iexists fo
      isplitr; · (ipureintro; exact fun i h => absurd h (Nat.not_lt_zero _))
      iexact Hob
    iexact HatB) $$ [Ho Hts Hrc Hrp Hsp Hown Hx Hw Hwb Hob HatB]
  · isplitl [Ho]; · unfold Owe; iexists _; iexact Ho
    isplitl [Hts]; · iexact Hts
    isplitl [Hrc]; · iexact Hrc
    isplitl [Hrp]; · iexact Hrp
    isplitl [Hsp]; · iexact Hsp
    isplitl [Hown]; · iexact Hown
    isplitl [Hx]; · iexact Hx
    isplitl [Hw]; · iexact Hw
    isplitl [Hwb]; · iexact Hwb
    isplitl [Hob] <;> iassumption
  iapply (x_step m c 0 (by decide) 0 0 0 0 0 _ _ rfl) $$ HS; iintro HS
  iapply (own_any m c (⟨0, Nat.le_of_ble_eq_true rfl⟩ : Fin 4) 0 0 0 0 _ _ (off1_own (⟨0, Nat.le_of_ble_eq_true rfl⟩ : Fin 4) c)) $$ HS; iintro %v HS
  iapply (own_store m c (⟨0, Nat.le_of_ble_eq_true rfl⟩ : Fin 4) 0 0 0 (by decide +kernel) _ _ (off1_own (⟨0, Nat.le_of_ble_eq_true rfl⟩ : Fin 4) c) _ (pay1_eq _)) $$ HS; iintro HS
  iapply (WP_ret c); iapply Hk; iexact HS

end Cert.KernelIdeal.Hand

end
-- ==== Proof.Body.lean ====
/- The kernel's body, part after part. -/
module

public import proofs.«01_k».proof.Proof.Entry

@[expose] public section

set_option maxRecDepth 16384

noncomputable section

namespace Cert.KernelIdeal.Hand

open Cert.KernelIdeal Cert.KernelIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

/-- A part runs, then what follows it. -/
theorem WP_bind {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  show wp frame (wpE (defs₀ (F := F)) 𝒱₀ (c : Thread nD τ) none) Set.univ p (fun a => wp frame (wpE (defs₀ (F := F)) 𝒱₀ (c : Thread nD τ) none) Set.univ (k a) Q)
    ⊢ wp frame (wpE (defs₀ (F := F)) 𝒱₀ (c : Thread nD τ) none) Set.univ (p >>= k) Q
  rw [wp_bind]

/-- At its end a body may still update. -/
theorem WP_end {α : Type} {a : α} {Q : α → sProp 𝕄} : iprop(|={Set.univ}=> Q a) ⊢ WP c (Prog.ret a) Q := by
  show iprop(|={Set.univ}=> Q a) ⊢ wp frame (wpE (defs₀ (F := F)) 𝒱₀ (c : Thread nD τ) none) Set.univ (Prog.ret a) Q
  rw [wp_ret]

/-- The first part finds the device's number and its barrier. -/
theorem part1 {Q : _ → sProp 𝕄} :
    iprop(∀ v2 v5 v10 v15 v24 v31, Q ⟨c, v2, v5, v10, v15, v24, v31, SemArray.scalar (sig.barrier 0 rfl), 1#32⟩)
      ⊢ WP c (k0_part1 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7) Q := by
  simp only [k0_part1_eq_skeleton]; unfold k0_part1_skel
  simp only [Prog.lift, Prog.bind_op, Prog.bind_ret, Prog.pure_eq_ret, wp_deviceId]
  iintro H
  iapply (WP_ret c); iapply H

/-- The whole body, from before the barrier to after the last wait. -/
theorem body {Q : PUnit → sProp 𝕄} :
    iprop(Rec m K ∗ Before m c)
      ⊢ iprop((St m c 4 25 25 15 25 -∗ iprop(|={Set.univ}=> Q ⟨⟩)) -∗ WP c (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7) Q) := by
  simp only [cc0_body_eq_skeleton]; unfold cc0_body_skel
  iintro ⟨#HR, HS⟩ Hk
  iapply (WP_bind c)
  iapply (part1 c)
  iintro %v2 %v5 %v10 %v15 %v24 %v31
  iapply (WP_bind c)
  iapply (part2 m K c _ _ _ _ _ _) $$ [HS]
  · isplitr; · iexact HR
    iexact HS
  iintro %a HS
  iapply (WP_bind c)
  iapply (part3 m K c _ _ _) $$ [HS]
  · isplitr; · iexact HR
    iexact HS
  iintro %a HS
  iapply (WP_bind c)
  iapply (part4 m K c _ _ _ _) $$ [HS]
  · isplitr; · iexact HR
    iexact HS
  iintro %a HS; obtain ⟨v125, c4_i32_85⟩ := a
  iapply (WP_bind c)
  iapply (part5 m K c _ _ _ _ _ _) $$ [HS]
  · isplitr; · iexact HR
    iexact HS
  iintro %v158 HS
  iapply (WP_bind c)
  iapply (part6 m K c _ _ _ _) $$ [HS]
  · isplitr; · iexact HR
    iexact HS
  iintro %a HS
  iapply (WP_bind c)
  iapply (part7 m K c _ _ _) $$ [HS]
  · isplitr; · iexact HR
    iexact HS
  iintro %a HS
  iapply (WP_bind c)
  iapply (part8 m K c _ _ _) $$ [HS]
  · isplitr; · iexact HR
    iexact HS
  iintro %a HS
  iapply (WP_bind c)
  iapply (part9 m K c _ _ _) $$ [HS]
  · isplitr; · iexact HR
    iexact HS
  iintro %a HS
  iapply (WP_bind c)
  iapply (part10 m K c _ _ _) $$ [HS]
  · isplitr; · iexact HR
    iexact HS
  iintro %a HS
  iapply (WP_bind c)
  iapply (part11 m K c _ _ _ _) $$ [HS]
  · isplitr; · iexact HR
    iexact HS
  iintro %a HS; obtain ⟨v342, v343, c11_i32_263⟩ := a
  iapply (WP_bind c)
  iapply (part12 m K c _ _ _ _ _ _) $$ [HS]
  · isplitr; · iexact HR
    iexact HS
  iintro %a HS
  iapply (WP_bind c)
  iapply (part13 m K c _ _ _) $$ [HS]
  · isplitr; · iexact HR
    iexact HS
  iintro %a HS
  iapply (WP_bind c)
  iapply (part14 m K c _ _ _) $$ [HS]
  · isplitr; · iexact HR
    iexact HS
  iintro %a HS
  iapply (WP_bind c)
  iapply (part15 m K c _ _ _) $$ [HS]
  · isplitr; · iexact HR
    iexact HS
  iintro %a HS; obtain ⟨v467, v468⟩ := a
  iapply (WP_bind c)
  iapply (part16 m K c _ _ _ _ _) $$ [HS]
  · isplitr; · iexact HR
    iexact HS
  iintro %a HS
  iapply (WP_bind c)
  iapply (part17 m K c _ _ _) $$ [HS]
  · isplitr; · iexact HR
    iexact HS
  iintro %a HS
  iapply (WP_bind c)
  iapply (part18 m K c _ _ _ _) $$ [HS]
  · isplitr; · iexact HR
    iexact HS
  iintro %a HS; obtain ⟨v559, c0_i32_446⟩ := a
  iapply (WP_bind c)
  iapply (part19 m K c _ _ _ _) $$ [HS]
  · isplitr; · iexact HR
    iexact HS
  iintro %a HS; obtain ⟨v590, v591, c11_i32_471⟩ := a
  iapply (WP_bind c)
  iapply (part20 m K c _ _ _ _ _) $$ [HS]
  · isplitr; · iexact HR
    iexact HS
  iintro %a HS
  iapply (WP_bind c)
  iapply (part21 m K c _ _) $$ [HS]
  · isplitr; · iexact HR
    iexact HS
  iintro %a HS; obtain ⟨v642, v647, v654, c0_i32_523⟩ := a
  iapply (WP_bind c)
  iapply (part22 m K c _ _ _ _ _) $$ [HS]
  · isplitr; · iexact HR
    iexact HS
  iintro %a HS
  iapply (WP_bind c)
  iapply (part23 m K c _ _ _ _) $$ [HS]
  · isplitr; · iexact HR
    iexact HS
  iintro %a HS
  iapply (WP_bind c)
  iapply (part24 m K c _ _ _ _) $$ [HS]
  · isplitr; · iexact HR
    iexact HS
  iintro %a HS
  iapply (WP_bind c)
  iapply (part25 m K c _ _ _ _) $$ [HS]
  · isplitr; · iexact HR
    iexact HS
  iintro %a HS
  iapply (WP_bind c)
  iapply (part26 m K c ) $$ [HS]
  · isplitr; · iexact HR
    iexact HS
  iintro %a HS
  iapply (WP_bind c)
  iapply (part27 m K c ) $$ [HS]
  · isplitr; · iexact HR
    iexact HS
  iintro %a HS
  iapply (WP_bind c)
  iapply (part28 m K c ) $$ [HS]
  · isplitr; · iexact HR
    iexact HS
  iintro %a HS
  iapply (WP_bind c)
  iapply (part29 m K c ) $$ [HS]
  · isplitr; · iexact HR
    iexact HS
  iintro %a HS
  simp only [Prog.lift, Prog.bind_op, Prog.bind_ret, Prog.pure_eq_ret]
  iapply (back_step m K c (⟨16, Nat.le_of_ble_eq_true rfl⟩ : Fin 25) 15 (by decide +kernel) 256 (by decide +kernel) _ _ _ _ _ chord_send) $$ [HS]
  · isplitr; · iexact HR
    iexact HS
  iintro HS
  iapply (WP_end c); iapply Hk; iexact HS

end Cert.KernelIdeal.Hand

end
-- ==== Proof.Exit.lean ====
/- The end of the kernel: the gathered buffer is whole again, the result is complete, and every cell is closed. -/
module

public import proofs.«01_k».proof.Proof.Body

@[expose] public section

set_option maxRecDepth 16384

noncomputable section

namespace Cert.KernelIdeal.Hand

open Cert.KernelIdeal Cert.KernelIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

/-- The eight chunks make up the gathered buffer. -/
theorem chunks_cover : (Finset.univ : Finset (cc0_scratch0 : Ref sig .tc).ty.Idx) = Finset.univ.biUnion fun δ : Fin 8 => rws (256 * ck c δ) 256 := by
  ext i
  simp only [Finset.mem_univ, Finset.mem_biUnion, true_and, true_iff]
  have hi : (i 0).val < 2048 := (i 0).isLt
  obtain ⟨δ, hδ⟩ := ck_surj c ⟨(i 0).val / 256, by omega⟩
  refine ⟨δ, mem_rws.mpr ?_⟩
  dsimp only at hδ; omega

/-- Every atom held, the gathered buffer is held whole. -/
theorem Held_all : (Held m c 4 25 25 25 : sProp 𝕄) = gP c Finset.univ fullShare (XW m) := by
  have h : ∀ b, (Finset.univ.filter fun a : Atom => heldB b 4 25 25 25 a = true) = Finset.univ := by decide +kernel
  have hg : (gP c Finset.univ fullShare (XW m) : sProp 𝕄) = bigSep Finset.univ fun δ : Fin 8 => gP c (rws (256 * ck c δ) 256) fullShare (XW m) := by
    unfold gP
    conv_lhs => rw [chunks_cover c]
    exact pointsTo_biUnion _ _ fun δ _ δ' _ hne => Finset.disjoint_left.mpr fun i hi hi' => hne (ck_inj c δ δ' (by
      have := mem_rws.mp hi; have := mem_rws.mp hi'; omega))
  unfold Held
  rw [h, hg, bigSep_univ_prod]
  exact bigSep_congr fun δ _ => by rw [← atoms_whole, bigSep_map]; rfl

/-- The fourteen products done, the result is complete. -/
theorem ord_lt : ∀ (d : Fin 8) (p : Fin 4), ord d.val p.val + 1 < 15 := by decide +kernel
/-- When all fifteen pieces are done the staged result is what the kernel computes. -/
theorem Done_all (f : (cc0_stg2_0 : Ref sig .tc).ty.Contents (Elt F)) (h : Done m c 15 f) : f = OUT m c :=
  funext fun i => h i (ord_lt ⟨dist c ((i 0).val / 256), Nat.mod_lt _ (by decide)⟩ ⟨(i 0).val / 64 % 4, Nat.mod_lt _ (by decide)⟩)

/-! ## Closing the cells -/

/-- Device `c`'s semaphore for an end of a transfer. -/
abbrev xCell (x : Bool × Fin 25) : GSem nD τ sig := ((c : Thread nD τ), .dma (xS x))

/-- After its one round a semaphore of a transfer is zero again. -/
theorem close_x (x : Bool × Fin 25) : iprop(Rec m K ∗ atPos ER (xCell c x) 1 ∅ 0) ⊢ (|={Set.univ}=> semVal (xCell c x) 0 : sProp 𝕄) := by
  iintro ⟨#HR, Hat⟩
  imod (Rounds.cell_close ER (Rd m) (Set.mem_univ (K (c, some x))) (fun h => h) (R := 0 + 1) (duties_later m (xCell c x))) $$ [Hat] with Hz
  · isplitr; · iapply (Rec_inv m K (c, some x)); iexact HR
    iexact Hat
  imodintro; iexact Hz
/-- After its one round the barrier is zero again. -/
theorem close_bar : iprop(Rec m K ∗ atPos ER (barCell c) 1 ∅ 0) ⊢ (|={Set.univ}=> semVal (barCell c) 0 : sProp 𝕄) := by
  iintro ⟨#HR, Hat⟩
  imod (Rounds.cell_close ER (Rd m) (Set.mem_univ (K (c, none))) (fun h => h) (R := 0 + 1) (duties_later m (barCell c))) $$ [Hat] with Hz
  · isplitr; · iapply (Rec_inv m K (c, none)); iexact HR
    iexact Hat
  imodintro; iexact Hz

/-- So are all the send semaphores, and all the receive semaphores. -/
theorem close_family (b : Bool) : iprop(Rec m K ∗ bigSep Finset.univ fun t : Fin 25 => atPos ER (xCell c (b, t)) 1 ∅ 0)
    ⊢ (|={Set.univ}=> bigSep Finset.univ fun t : Fin 25 => semVal (xCell c (b, t)) 0 : sProp 𝕄) := by
  have h : iprop(Rec m K ∗ bigSep Finset.univ fun t : Fin 25 => atPos ER (xCell c (b, t)) 1 ∅ 0)
      ⊢ (bigSep Finset.univ fun t : Fin 25 => iprop(|={Set.univ}=> semVal (xCell c (b, t)) 0) : sProp 𝕄) :=
    bigSep_with_persistent fun t _ => close_x m K c (b, t)
  exact h.trans (bigSep_fupd _ _)

/-- At the end every arrival has been waited for. -/
theorem RPos_end : (RPos c 25 : sProp 𝕄) = bigSep Finset.univ fun t : Fin 25 => atPos ER (xCell c (true, t)) 1 ∅ 0 := by
  unfold RPos; exact bigSep_congr fun t _ => by rw [if_pos t.isLt]
/-- At the end every send has been waited for. -/
theorem SPos_end : (SPos c 25 : sProp 𝕄) = bigSep Finset.univ fun t : Fin 25 => atPos ER (xCell c (false, t)) 1 ∅ 0 := by
  unfold SPos; exact bigSep_congr fun t _ => by rw [if_pos (widx_lt t)]

/-- What a device holds past the last operation, its cells closed. -/
def After : sProp 𝕄 :=
  iprop((∃ W : Waits sig Unit, owes (c : Thread nD τ) (0 : CellTallies nD τ sig Unit) W)
    ∗ ((∃ f, wholeP c cc0_scratch0 f) ∗ (∃ f, wholeP c cc0_scratch1 f)
      ∗ (bigSep Finset.univ fun t : Fin 25 => semVal (xCell c (false, t)) 0) ∗ (bigSep Finset.univ fun t : Fin 25 => semVal (xCell c (true, t)) 0)
      ∗ semVal (barCell c) 0)
    ∗ wholeP c cc0_stg0_0 (xst m c) ∗ wholeP c cc0_stg1_0 (wst m c) ∗ wholeP c cc0_stg2_0 (OUT m c))

/-- The state after the last step gives back what the kernel leaves. -/
theorem finish : iprop(Rec m K ∗ St m c 4 25 25 15 25) ⊢ (|={Set.univ}=> After m c : sProp 𝕄) := by
  unfold St Owe WB OB
  rw [Held_all, RPos_end, SPos_end, owed_end]
  iintro ⟨#HR, Ho, -, -, HrP, -, HsP, -, Hg, Hx, Hw, ⟨%fw, -, Hwb⟩, ⟨%fo, %hfo, Hob⟩, HatB⟩
  imod (close_family m K c true) $$ [HrP] with Hzr
  · isplitr; · iexact HR
    iexact HrP
  imod (close_family m K c false) $$ [HsP] with Hzs
  · isplitr; · iexact HR
    iexact HsP
  imod (close_bar m K c) $$ [HatB] with Hzb
  · isplitr; · iexact HR
    iexact HatB
  imodintro
  rw [Done_all m c fo hfo]
  unfold After
  isplitl [Ho]; · iexact Ho
  isplitl [Hg Hwb Hzr Hzs Hzb]
  · isplitl [Hg]
    · ihave Hg := (Entails.of_eq (show (gP c Finset.univ fullShare (XW m) : sProp 𝕄) = wholeP c cc0_scratch0 (XW m) from rfl)) $$ Hg
      iexists (XW m); iexact Hg
    isplitl [Hwb]
    · iexists fw; iexact Hwb
    isplitl [Hzs]; · iexact Hzs
    isplitl [Hzr] <;> iassumption
  isplitl [Hx]; · iexact Hx
  isplitl [Hw] <;> iassumption

end Cert.KernelIdeal.Hand

end
-- ==== Proof.Launch.lean ====
/- The launch: the eight devices' cells, duties, credits and levels are dealt out, each runs its body, and the run's final state is read off. -/
module

public import proofs.«01_k».proof.Proof.Exit
public import Idealize.ShloMosaic.Lib.Pipeline.CollectiveSegs

@[expose] public section

set_option maxRecDepth 16384

noncomputable section

namespace Cert.KernelIdeal.Hand

open Cert.KernelIdeal Cert.KernelIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state the run starts from: the given memory, every counter at zero. -/
def σ₀ : MemSt nD τ sig (Elt F) := ⟨m, fun _ => 0, ρ⟩

/-! ## The pipeline's one point -/

/-- The grid has one step. -/
theorem cfg0_N : cfg0.N = 1 := by decide
/-- That step. -/
def t₀ : Fin cfg0.N := ⟨0, by rw [cfg0_N]; decide⟩
/-- Every step of the grid is that one. -/
theorem fin_N (t : Fin cfg0.N) : t = t₀ := by
  obtain ⟨t, ht⟩ := t; have := cfg0_N; exact Fin.ext (by simp only [t₀]; omega)

/-- What device `c` starts from besides its buffers: the records, where it stands at its cells, the duties it is to pay and
    the credits of what it will wait for. -/
def Ghost (K : Dev nD × CI → ℕ) (c : Dev nD) : sProp 𝕄 :=
  iprop((bigSep Finset.univ fun d : Fin 3 => dutyTok ER (barCell (nb c d)) 0 (opp d))
    ∗ (bigSep Finset.univ fun t : Fin 25 => iprop(dutyTok ER (sendCell c t) 0 0 ∗ dutyTok ER (recvCell (dst c t) t) 0 0))
    ∗ atPos ER (barCell c) 0 ∅ 0 ∗ RPos c 0 ∗ SPos c 0)
/-- The invariants of all cells and the fact that each has reached its round. -/
def Recs (K : Dev nD × CI → ℕ) : sProp 𝕄 :=
  iprop((bigSep Finset.univ fun p : Dev nD × CI => cellInv ER (Rd m) (K p) (kcell p)) ∗ (bigSep Finset.univ fun p : Dev nD × CI => reached ER (kcell p) 0))
/-- These may be used as often as needed. -/
instance Recs_persistent (K : Dev nD × CI → ℕ) : BI.Persistent (Recs (F := F) m K) := by unfold Recs; infer_instance
/-- What the global step of the launch leaves device `c`. -/
def G' (c : Dev nD) : sProp 𝕄 := iprop(∃ K : Dev nD × CI → ℕ, Recs m K ∗ Ghost K c)

/-- What the launch leaves device `c`, with its credits and the levels. -/
def start (c : Dev nD) : sProp 𝕄 := iprop(G' m c ∗ cred (tallyAt (barCell c) () 3) ∗ RCred c 0 ∗ levAts L lv)

/-- Before the one point, and after it. -/
def Φ₀ (c : Dev nD) : sProp 𝕄 := iprop(start m c ∗ (∃ f, wholeP c cc0_scratch0 f) ∗ (∃ f, wholeP c cc0_scratch1 f))
/-- What the kernel's own buffers and semaphores are when the body has ended. -/
def Φ₁ (c : Dev nD) : sProp 𝕄 :=
  iprop((∃ f, wholeP c cc0_scratch0 f) ∗ (∃ f, wholeP c cc0_scratch1 f)
    ∗ (bigSep Finset.univ fun t : Fin 25 => semVal (xCell c (false, t)) 0) ∗ (bigSep Finset.univ fun t : Fin 25 => semVal (xCell c (true, t)) 0)
    ∗ semVal (barCell c) 0)

/-- The staging of the one region: which arrays it reads, and what it leaves of each. -/
def dats (_ : Fin 1) (c : Dev nD) : Dat τ (Elt F) Unit ℕ UU ℕ cfg0 c where
  A w := (σ₀ m ρ).mem ((cfg0.win w).arr.view.loc (c : Thread nD τ))
  after w _ := match w with
    | ⟨0, _⟩ => xst m c
    | ⟨1, _⟩ => wst m c
    | ⟨2, _⟩ => OUT m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A staging buffer with given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts with, -/
def bodyPre (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- and what it ends with. -/
def bodyPost (c : Dev nD) : sProp 𝕄 :=
  iprop(Φ₁ c ∗ (dats m ρ 0 c).owesAt () t₀.succ ∗ stg c cc0_stg0_0 (xst m c) ∗ stg c cc0_stg1_0 (wst m c) ∗ stg c cc0_stg2_0 (OUT m c))

/-- What the pipeline gives at its point is what the kernel starts from. -/
theorem pre_before (c : Dev nD) : bodyPre m ρ c ⊢ iprop(∃ K, Rec m K ∗ Before m c) := by
  unfold bodyPre Φ₀ start G' Recs Ghost
  iintro ⟨⟨⟨⟨%K, ⟨#HI, #HR⟩, Hd, Ht, HaB, HrP, HsP⟩, HcB, HrC, #Hlev⟩, ⟨%fg, Hg⟩, ⟨%fw, Hwb⟩⟩, Ho, ⟨%d0, %g0, %hg0, Hx⟩, ⟨%d1, %g1, %hg1, Hw⟩, ⟨%d2, %g2, %hg2, Hob⟩⟩
  have hx : g0 = xst m c := by rw [hg0]; unfold Dat.before; rw [if_pos (fetch0_0 t₀)]; rfl
  have hw : g1 = wst m c := by rw [hg1]; unfold Dat.before; rw [if_pos (fetch0_1 t₀)]; rfl
  subst hx
  subst hw
  unfold Dat.owesAt Pipeline.owesWithin
  icases Ho with ⟨%W, %hW, HO⟩
  rw [show (dats m ρ 0 c).owed t₀.castSucc = O₀ c from rfl]
  iexists K
  isplitr
  · unfold Rec
    isplitr; · iexact HI
    isplitr; · iexact HR
    iexact Hlev
  ihave Hg := (Entails.of_eq (show (wholeP c cc0_scratch0 fg : sProp 𝕄) = gP c Finset.univ fullShare fg from rfl)) $$ Hg
  unfold Before
  isplitl [HO]; · iexists W; iexact HO
  isplitl [Hd]; · iexact Hd
  isplitl [Ht]; · iexact Ht
  isplitl [HcB]; · iexact HcB
  isplitl [HaB]; · iexact HaB
  isplitl [HrC]; · iexact HrC
  isplitl [HrP]; · iexact HrP
  isplitl [HsP]; · iexact HsP
  isplitl [Hg]; · iexists fg; iexact Hg
  isplitl [Hwb]; · iexists fw; iexact Hwb
  isplitl [Hx]; · unfold wholeP; iexact Hx
  isplitl [Hw]; · unfold wholeP; iexact Hw
  iexists g2; unfold wholeP; iexact Hob

/-- What the kernel ends with is what the pipeline wants back. -/
theorem after_post (c : Dev nD) : After m c ⊢ bodyPost m ρ c := by
  unfold After bodyPost Φ₁ Dat.owesAt Pipeline.owesWithin
  rw [show (dats m ρ 0 c).owed t₀.succ = 0 from rfl]
  iintro ⟨⟨%W, Ho⟩, HΦ, Hx, Hw, Hob⟩
  isplitl [HΦ]; · iexact HΦ
  isplitl [Ho]
  · iexists W
    isplitr; · (ipureintro; exact fun _ _ => Or.inl trivial)
    iexact Ho
  unfold wholeP
  isplitl [Hx]
  · iexists _; isplitr; · (ipureintro; rfl)
    iexact Hx
  isplitl [Hw]
  · iexists _; isplitr; · (ipureintro; rfl)
    iexact Hw
  iexists _; isplitr; · (ipureintro; rfl)
  iexact Hob

/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ WP c (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7) (fun _ => bodyPost m ρ c)
  iintro H
  ihave H := (pre_before m ρ c) $$ H
  icases H with ⟨%K, #HR, HB⟩
  iapply (body m K c (Q := fun _ => bodyPost m ρ c)) $$ [HB]
  · isplitr; · iexact HR
    iexact HB
  iintro HS
  imod (finish m K c) $$ [HS] with HA
  · isplitr; · iexact HR
    iexact HS
  imodintro
  iapply (after_post m ρ c); iexact HA

/-! ## The cells and the duties, dealt -/

/-- The kernel's own semaphores for the transfers. -/
abbrev osem (x : Bool × Fin 25) : SemLoc sig := .dma (xS x)
/-- They are different from each other and from those of the staging. -/
theorem ownSemFacts : Pipeline.OwnSemFacts cfg0.spec osem := by decide +kernel
/-- Every window is staged at full ownership. -/
theorem share_eq (c : Dev nD) (w : Fin cfg0.W) : (dats m ρ 0 c).share w = fullShare := by unfold Dat.share; split <;> rfl

/-- Different ends of transfers have different semaphores. -/
theorem xS_inj {x y : Bool × Fin 25} (h : xS x = xS y) : x = y := xn_inj _ _ (congrArg Fin.val h)
/-- Different cells of one device have different semaphores. -/
theorem csem_inj {i j : CI} (h : csem i = csem j) : i = j := by
  cases i <;> cases j
  · rfl
  · cases h
  · cases h
  · exact congrArg some (xS_inj (SemLoc.dma.inj h))
/-- Different cells have different semaphores, over all devices. -/
theorem kcell_inj : Function.Injective (kcell : Dev nD × CI → GSem nD τ sig) := by
  rintro ⟨c, i⟩ ⟨c', i'⟩ h
  have h1 : c = c' := congrArg (fun g : GSem nD τ sig => g.1.1) h
  have h2 : i = i' := csem_inj (congrArg Prod.snd h)
  rw [h1, h2]
/-- All cells of the exchange. -/
def cellSet : Finset (GSem nD τ sig) := Finset.univ.map ⟨kcell, kcell_inj⟩

/-- A duty: a direction at the barrier cell, the one duty of a send or receive cell. -/
abbrev tokOf (x : Dev nD × (Fin 3 ⊕ Bool × Fin 25)) : GSem nD τ sig × ℕ × Fin 3 := match x.2 with
  | .inl d => (barCell x.1, 0, d)
  | .inr y => (xCell x.1 y, 0, 0)
/-- Different duties have different tokens. -/
theorem tokOf_inj : Function.Injective (tokOf : Dev nD × (Fin 3 ⊕ Bool × Fin 25) → GSem nD τ sig × ℕ × Fin 3) := by
  rintro ⟨c, i⟩ ⟨c', i'⟩ h
  have h1 : c = c' := by
    have := congrArg (fun x : GSem nD τ sig × ℕ × Fin 3 => x.1.1.1) h
    cases i <;> cases i' <;> exact this
  have h2 : i = i' := by
    have hs := congrArg (fun x : GSem nD τ sig × ℕ × Fin 3 => x.1.2) h
    have hd := congrArg (fun x : GSem nD τ sig × ℕ × Fin 3 => x.2.2) h
    cases i <;> cases i'
    · exact congrArg Sum.inl hd
    · cases hs
    · cases hs
    · exact congrArg Sum.inr (xS_inj (SemLoc.dma.inj hs))
  rw [h1, h2]
/-- The tokens of all duties. -/
def tokSet : Finset (GSem nD τ sig × ℕ × Fin 3) := Finset.univ.map ⟨tokOf, tokOf_inj⟩

/-- The ghost state at the launch. -/
def u₀ : UU := (initOf (Pipeline.cells cfgs cellOf_inj) (Pipeline.launchToks cfgs cellOf_inj), initOf cellSet tokSet)

/-- A family over a device's cells: the barrier's, the sends', the receives'. -/
theorem bigSep_CI (Φ : CI → sProp 𝕄) : bigSep Finset.univ Φ
    = iprop(Φ none ∗ (bigSep Finset.univ fun t : Fin 25 => Φ (some (false, t))) ∗ (bigSep Finset.univ fun t : Fin 25 => Φ (some (true, t)))) := by
  rw [bigSep_univ_split (Φ := Φ) none]
  have h : (Finset.univ.erase none : Finset CI) = Finset.univ.map (Function.Embedding.some : Bool × Fin 25 ↪ CI) := by
    ext i; cases i <;> simp
  rw [h, bigSep_map, bigSep_univ_prod, bigSep_univ_eq_bigSepL [false, true] (by decide) (by decide)]
  rfl

/-- A family over a device's duties is its family over the barrier's parties, over the sends and over the arrivals. -/
theorem bigSep_duty (Φ : Fin 3 ⊕ Bool × Fin 25 → sProp 𝕄) : bigSep Finset.univ Φ
    = iprop((bigSep Finset.univ fun d : Fin 3 => Φ (.inl d)) ∗ (bigSep Finset.univ fun t : Fin 25 => Φ (.inr (false, t))) ∗ (bigSep Finset.univ fun t : Fin 25 => Φ (.inr (true, t)))) := by
  rw [bigSep_univ_sum, bigSep_univ_prod, bigSep_univ_eq_bigSepL [false, true] (by decide) (by decide)]
  rfl

/-- The duties of device `c`'s own cells. -/
def toks (c : Dev nD) : sProp 𝕄 :=
  iprop((bigSep Finset.univ fun d : Fin 3 => dutyTok ER (barCell c) 0 d)
    ∗ (bigSep Finset.univ fun t : Fin 25 => dutyTok ER (sendCell c t) 0 0) ∗ (bigSep Finset.univ fun t : Fin 25 => dutyTok ER (recvCell c t) 0 0))
/-- The duties it pays. -/
def payToks (c : Dev nD) : sProp 𝕄 :=
  iprop((bigSep Finset.univ fun d : Fin 3 => dutyTok ER (barCell (nb c d)) 0 (opp d))
    ∗ (bigSep Finset.univ fun t : Fin 25 => dutyTok ER (sendCell c t) 0 0) ∗ (bigSep Finset.univ fun t : Fin 25 => dutyTok ER (recvCell (dst c t) t) 0 0))

/-- What the launch deals device `c`. -/
def G (c : Dev nD) : sProp 𝕄 :=
  iprop((bigSep Finset.univ fun i : CI => roundState ER (Rd m) (kcell (c, i)) 0)
    ∗ (bigSep Finset.univ fun i : CI => iprop(atPos ER (kcell (c, i)) 0 ∅ 0 ∗ reached ER (kcell (c, i)) 0)) ∗ toks c)

/-- The launch's ghost state of the exchange splits into each device's part. -/
theorem fund_cells : BI.own (ER (initOf cellSet tokSet)) ⊢ (|==> bigSep Finset.univ (G m) : sProp 𝕄) := by
  have hX (Φ : GSem nD τ sig → sProp 𝕄) : bigSep cellSet Φ = bigSep Finset.univ fun c : Dev nD => bigSep Finset.univ fun i : CI => Φ (kcell (c, i)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]
    exact bigSep_congr fun c _ => by unfold toks; rw [bigSep_duty]; rfl
  iintro HX
  imod (Rounds.fund ER (Rd m) cellSet tokSet) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The fifty semaphores of the copies are the kernel's own, -/
theorem ownSems0_eq (c : Dev nD) : (Pipeline.ownSems0 (Ix := Unit) (Name := ℕ) (U := UU) (Lvl := ℕ) (Val := Elt F) (τ := τ) osem c : sProp 𝕄)
    = iprop((bigSep Finset.univ fun t : Fin 25 => semVal (xCell c (false, t)) 0) ∗ (bigSep Finset.univ fun t : Fin 25 => semVal (xCell c (true, t)) 0)) := by
  unfold Pipeline.ownSems0
  rw [bigSep_univ_prod, bigSep_univ_eq_bigSepL [false, true] (by decide) (by decide)]; rfl
/-- and the barrier semaphore is the one that is not. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's own semaphores at zero are its cells' semaphores at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [ownSems0_eq, unscopedSems0_eq, bigSep_CI]
  iintro ⟨⟨HS, HV⟩, HB⟩
  isplitl [HB]; · iexact HB
  isplitl [HS] <;> iassumption

/-- A device's semaphores at zero and its ghost state make the invariants of its cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd m) κ (kcell (c, i))))
          ∗ (bigSep Finset.univ fun i : CI => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (Rd m) (kcell (c, i)) 0)
      ⊢ (|={Set.univ}=> bigSep Finset.univ fun i : CI => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- Seen from its other end, a direction is the opposite one. -/
def oppE : Fin 3 ≃ Fin 3 := ⟨opp, opp, opp_opp, opp_opp⟩

/-- The duties go to the devices that pay them: a barrier's to its neighbours, a receive cell's to the sender. -/
theorem toks_around : (bigSep Finset.univ fun c : Dev nD => (toks c : sProp 𝕄)) = bigSep Finset.univ fun c : Dev nD => payToks c := by
  have h1 : (bigSep Finset.univ fun c : Dev nD => bigSep Finset.univ fun d : Fin 3 => (dutyTok ER (barCell c) 0 d : sProp 𝕄))
      = bigSep Finset.univ fun c : Dev nD => bigSep Finset.univ fun d : Fin 3 => dutyTok ER (barCell (nb c d)) 0 (opp d) := by
    rw [bigSep_univ_comm, bigSep_univ_comm (fun (c : Dev nD) (d : Fin 3) => (dutyTok ER (barCell (nb c d)) 0 (opp d) : sProp 𝕄)),
      bigSep_univ_equiv oppE]
    exact bigSep_congr fun d _ => bigSep_univ_equiv (toward d) fun c : Dev nD => (dutyTok ER (barCell c) 0 (opp d) : sProp 𝕄)
  have h2 : (bigSep Finset.univ fun c : Dev nD => bigSep Finset.univ fun t : Fin 25 => (dutyTok ER (recvCell c t) 0 0 : sProp 𝕄))
      = bigSep Finset.univ fun c : Dev nD => bigSep Finset.univ fun t : Fin 25 => dutyTok ER (recvCell (dst c t) t) 0 0 := by
    rw [bigSep_univ_comm, bigSep_univ_comm (fun (c : Dev nD) (t : Fin 25) => (dutyTok ER (recvCell (dst c t) t) 0 0 : sProp 𝕄))]
    exact bigSep_congr fun t _ => bigSep_univ_equiv (along t) fun c : Dev nD => (dutyTok ER (recvCell c t) 0 0 : sProp 𝕄)
  unfold toks payToks
  rw [bigSep_sep', bigSep_sep', bigSep_sep', bigSep_sep', h1, h2]

/-- The part of a device's ghost state that only that device may use. -/
def linear (c : Dev nD) : sProp 𝕄 := iprop((bigSep Finset.univ fun i : CI => atPos ER (kcell (c, i)) 0 ∅ 0) ∗ payToks c)

/-- At the start no arrival has been waited for. -/
theorem RPos_start (c : Dev nD) : (RPos c 0 : sProp 𝕄) = bigSep Finset.univ fun t : Fin 25 => atPos ER (xCell c (true, t)) 0 ∅ 0 := by
  unfold RPos; exact bigSep_congr fun t _ => by rw [if_neg (Nat.not_lt_zero _)]
/-- At the start no send has been waited for. -/
theorem SPos_start (c : Dev nD) : (SPos c 0 : sProp 𝕄) = bigSep Finset.univ fun t : Fin 25 => atPos ER (xCell c (false, t)) 0 ∅ 0 := by
  unfold SPos; exact bigSep_congr fun t _ => by rw [if_neg (Nat.not_lt_zero _)]

/-- The shared records and a device's own part are what it starts with. -/
theorem G'_intro (K : Dev nD × CI → ℕ) (c : Dev nD) : iprop(Recs m K ∗ linear c) ⊢ G' m c := by
  unfold linear payToks G' Ghost
  rw [bigSep_CI, RPos_start, SPos_start, bigSep_sep']
  iintro ⟨#HI, ⟨HaB, HaS, HaR⟩, Hd, Ht1, Ht2⟩
  iexists K
  isplitr; · iexact HI
  isplitl [Hd]; · iexact Hd
  isplitl [Ht1 Ht2]
  · isplitl [Ht1] <;> iassumption
  isplitl [HaB]; · iexact HaB
  isplitl [HaR] <;> iassumption

/-- The invariants made on every device, collected into the shared records, go to every device. -/
theorem regroup :
    (bigSep Finset.univ fun c : Dev nD => iprop((bigSep Finset.univ fun i : CI => iprop(∃ κ : ℕ, cellInv ER (Rd m) κ (kcell (c, i))))
          ∗ (bigSep Finset.univ fun i : CI => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun p : Dev nD × CI => iprop(∃ κ : ℕ, cellInv ER (Rd m) κ (kcell p))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun p : Dev nD × CI => (reached ER (kcell p) 0 : sProp 𝕄)), toks_around]
  iintro ⟨HI, ⟨Hat, #HR⟩, Htok⟩
  ihave HK := (BI.bigSep_exists_pi Finset.univ (fun (p : Dev nD × CI) (κ : ℕ) => (cellInv ER (Rd m) κ (kcell p) : sProp 𝕄))) $$ HI
  icases HK with ⟨%K, #HI⟩
  iapply (bigSep_with_persistent (R := Recs m K) (Φ := linear) fun c _ => G'_intro m K c)
  isplitr
  · unfold Recs
    isplitr; · iexact HI
    iexact HR
  · unfold linear
    rw [bigSep_sep']
    isplitl [Hat] <;> iassumption

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits of the launch -/

/-- Two barriers are the same when their devices are. -/
theorem bar_eq_iff {a b : Dev nD} : Iff (barCell a = barCell b) (a = b) :=
  ⟨fun h => congrArg (fun g : GSem nD τ sig => g.1.1) h, fun h => h ▸ rfl⟩
/-- Two arrivals' semaphores are the same when their devices and transfers are. -/
theorem recv_eq_iff {a b : Dev nD} {t u : Fin 25} : Iff (recvCell a t = recvCell b u) (a = b ∧ t = u) :=
  ⟨fun h => ⟨congrArg (fun g : GSem nD τ sig => g.1.1) h, (Prod.ext_iff.mp (xS_inj (SemLoc.dma.inj (congrArg Prod.snd h)))).2⟩, fun h => by rw [h.1, h.2]⟩
/-- A barrier is not an arrival's semaphore. -/
theorem bar_ne_recv {a b : Dev nD} {t : Fin 25} : barCell a ≠ recvCell b t := fun h => by cases congrArg Prod.snd h

/-- Transfers owe a barrier nothing. -/
theorem owed_at_bar (d c : Dev nD) : owed d 0 (barCell c) () = 0 := by
  unfold owed
  rw [Finset.sum_apply, Finsupp.finset_sum_apply]
  exact Finset.sum_eq_zero fun t _ => by rw [tallyAt_apply, if_neg fun h => bar_ne_recv h.1]
/-- An arrival is owed its amount by its sender alone. -/
theorem owed_at_recv (d c : Dev nD) (t : Fin 25) : owed d 0 (recvCell c t) () = if d = snd c t then amt t else 0 := by
  unfold owed
  rw [Finset.sum_apply, Finsupp.finset_sum_apply, Finset.filter_true_of_mem fun _ _ => Nat.zero_le _,
    Finset.sum_eq_single t (fun u _ hu => by rw [tallyAt_apply, if_neg fun h => hu (recv_eq_iff.mp h.1).2.symm]) (fun h => absurd (Finset.mem_univ _) h),
    tallyAt_apply]
  by_cases h : d = snd c t
  · subst h; rw [dst_snd, if_pos ⟨rfl, rfl⟩, if_pos rfl]
  · rw [if_neg h, if_neg fun h' => h (by rw [(recv_eq_iff.mp h'.1).1, snd_dst])]

/-- Each device's barrier is owed a unit by each of its three neighbours, -/
theorem O₀_bar (d c : Dev nD) : O₀ d (barCell c) () = (if c = nb d 2 then 1 else 0) + (if c = nb d 0 then 1 else 0) + (if c = nb d 1 then 1 else 0) := by
  have h (e : Fin 3) : (tallyAt (barCell (nb d e)) () 1 : CellTallies nD τ sig Unit) (barCell c) () = if c = nb d e then 1 else 0 := by
    rw [tallyAt_apply]
    by_cases h : c = nb d e
    · rw [if_pos h, if_pos ⟨bar_eq_iff.mpr h, rfl⟩]
    · rw [if_neg h, if_neg fun h' => h (bar_eq_iff.mp h'.1)]
  unfold O₀
  rw [Pi.add_apply, Finsupp.add_apply, Pi.add_apply, Finsupp.add_apply, Pi.add_apply, Finsupp.add_apply, h, h, h, owed_at_bar, Nat.zero_add]
/-- Three devices have a given device as a neighbour. -/
theorem three : ∀ c : Dev nD, (∑ d : Dev nD, ((if c = nb d 2 then 1 else 0) + (if c = nb d 0 then 1 else 0) + (if c = nb d 1 then 1 else 0))) = 3 := by decide +kernel
/-- and each receive cell its transfer's credit by the sender. -/
theorem O₀_recv (d c : Dev nD) (t : Fin 25) : O₀ d (recvCell c t) () = if d = snd c t then amt t else 0 := by
  have h (e : Fin 3) : (tallyAt (barCell (nb d e)) () 1 : CellTallies nD τ sig Unit) (recvCell c t) () = 0 := by
    rw [tallyAt_apply, if_neg fun h => bar_ne_recv h.1.symm]
  unfold O₀
  rw [Pi.add_apply, Finsupp.add_apply, Pi.add_apply, Finsupp.add_apply, Pi.add_apply, Finsupp.add_apply, h, h, h, owed_at_recv, Nat.add_zero]

/-- The launch's credit at a barrier is three, -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => O₀_bar d c]
  exact three c
/-- and at an arrival's semaphore what its transfer counts. -/
theorem launch_recv (c : Dev nD) (t : Fin 25) :
    tallyOn (recvCell c t) (launchCredit (Pipeline.owing O₀) 0 (recvCell c t)) = (tallyAt (recvCell c t) () (amt t) : CellTallies nD τ sig Unit) := by
  unfold tallyAt; refine congrArg _ (Finsupp.ext fun u => ?_); cases u
  rw [Pipeline.launchCredit_owing, Finsupp.single_eq_same, Finset.sum_congr rfl fun d _ => O₀_recv d c t, Finset.sum_ite_eq' Finset.univ (snd c t) fun _ => amt t,
    if_pos (Finset.mem_univ _)]

/-- The semaphores of the arrivals, one for each transfer. -/
def recvSem : Fin 25 ↪ SemLoc sig := ⟨fun t => .dma (xS (true, t)), fun t u h => (Prod.ext_iff.mp (xS_inj (SemLoc.dma.inj h))).2⟩

/-- The launch's credits give a device those of its barrier and of its arrivals. -/
theorem creds (c : Dev nD) : (Pipeline.launchCred O₀ c : sProp 𝕄) ⊢ iprop(cred (tallyAt (barCell c) () 3) ∗ RCred c 0) := by
  unfold Pipeline.launchCred
  rw [bigSep_univ_at _ (SemLoc.reg barS), launch_bar]
  refine sep_mono_right ?_
  have h : Finset.univ.map recvSem ⊆ (Finset.univ.erase (SemLoc.reg barS) : Finset (SemLoc sig)) := fun s hs => by
    obtain ⟨t, -, rfl⟩ := Finset.mem_map.mp hs
    exact Finset.mem_erase.mpr ⟨fun h => (by cases h), Finset.mem_univ _⟩
  refine (bigSep_subset h).trans ?_
  rw [bigSep_map]
  unfold RCred
  rw [Finset.filter_true_of_mem fun _ _ => Nat.zero_le _]
  exact Entails.of_eq (bigSep_congr fun t _ => congrArg _ (launch_recv c t))

/-! ## The side conditions -/

/-- What the launch gives a device outside the region is what the device starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

/-- With the buffers of the region it is what the body starts with. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ wholeP
  iintro ⟨Hs, -, Hg, Hw⟩
  isplitl [Hs]; · iexact Hs
  isplitl [Hg] <;> iassumption

/-- What the body ends with gives the buffers and semaphores of the region back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ wholeP
  iintro ⟨Hg, Hw, HzS, HzR, HzB⟩
  isplitl [HzB]; · iexact HzB
  isplitl [HzS HzR]
  · isplitl [HzS] <;> iassumption
  isplitl [Hg] <;> iassumption

/-- The semaphores of the staging have level zero, -/
theorem stage_level : ∀ (w : Fin cfg0.W) (s : Fin (cfg0.win w).nbuf) (c : Dev nD), lv ((c : Thread nD τ), .dma ((cfg0.win w).sem s)) () = 0 := by decide +kernel

/-- so its waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_level w s c) _ (by
      rcases t with ⟨_ | _, ht⟩
      · exact Or.inl rfl
      · exact Or.inr rfl)

/-! ## The run -/

/-- What the launch leaves in window `w`'s array. -/
def finalA (c : Dev nD) (w : Fin cfg0.W) : Buf (Elt F) ((cfg0.win w).arr.view.loc (c : Thread nD τ)) := (dats m ρ 0 c).arrAt w cfg0.N

/-- Every window's array holds what the launch leaves there. -/
def QC : PUnit × MemSt nD τ sig (Elt F) → Prop := fun r =>
  ∀ c : Dev nD, ∀ w : Fin cfg0.W, r.2.mem ((cfg0.win w).arr.view.loc (c : Thread nD τ)) = finalA m ρ c w

/-- From any memory with every counter at zero, every fair run of the eight devices terminates with each window's array at
    its computed contents and every counter at zero. -/
theorem run_main : θ_run defs (onTc (τ := τ) (main (F := F))) (σ₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Hand

end
-- ==== Proof.Final.lean ====
/- What the kernel's run leaves: the arguments as they were, and each device's result read off its one block. -/
module

public import proofs.«01_k».proof.Proof.Launch
public import Idealize.ShloMosaic.Lib.Pipeline.Value

@[expose] public section

set_option maxRecDepth 16384

noncomputable section

namespace Cert.KernelIdeal.Hand

open Cert.KernelIdeal Cert.KernelIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The one block of each window is its whole array. -/
theorem emb0 (t : Fin cfg0.N) (x : S256x2048.Idx) : (win0_0.blk t).view.emb x = x := by
  rw [fin_N t]; funext a; fin_cases a <;> exact Fin.ext (by show 0 + 1 * (x _).val = (x _).val; omega)
/-- The second argument's window shows its array as it is. -/
theorem emb1 (t : Fin cfg0.N) (x : S2048x256.Idx) : (win0_1.blk t).view.emb x = x := by
  rw [fin_N t]; funext a; fin_cases a <;> exact Fin.ext (by show 0 + 1 * (x _).val = (x _).val; omega)
/-- The result's window shows its array as it is. -/
theorem emb2 (t : Fin cfg0.N) (x : S2048x256.Idx) : (win0_2.blk t).view.emb x = x := by
  rw [fin_N t]; funext a; fin_cases a <;> exact Fin.ext (by show 0 + 1 * (x _).val = (x _).val; omega)

/-- The staged first argument is the first argument. -/
theorem xst_eq (c : Dev nD) : xst m c = m ((c : Thread nD τ).loc main_arg0) := funext fun x => by
  unfold xst; rw [View.read_apply]; exact congrArg (m ((c : Thread nD τ).loc main_arg0)) (emb0 t₀ x)
/-- The staged second argument is the second argument. -/
theorem wst_eq (c : Dev nD) : wst m c = m ((c : Thread nD τ).loc main_arg1) := funext fun x => by
  unfold wst; rw [View.read_apply]; exact congrArg (m ((c : Thread nD τ).loc main_arg1)) (emb1 t₀ x)

/-- After the run the arguments hold what they held, -/
theorem finalA_x (c : Dev nD) : finalA m ρ c (0 : Fin 3) = m ((c : Thread nD τ).loc main_arg0) := (dats (F := F) m ρ 0 c).arrAt_in (0 : Fin 3) rfl _
/-- The second argument ends unchanged, -/
theorem finalA_w (c : Dev nD) : finalA m ρ c (1 : Fin 3) = m ((c : Thread nD τ).loc main_arg1) := (dats (F := F) m ρ 0 c).arrAt_in (1 : Fin 3) rfl _
/-- and the result what the kernel computes. -/
theorem finalA_out (c : Dev nD) : finalA m ρ c (2 : Fin 3) = OUT m c :=
  (dats (F := F) m ρ 0 c).arrAt_eq_of_cover (2 : Fin 3) (OUT m c)
    (fun t _ => funext fun x => by rw [View.read_apply]; exact (congrArg (OUT m c) (emb2 t x)).symm)
    (fun i => ⟨t₀, flush0_2 t₀, by have h := ((cfg0.win 2).blk t₀).view.emb_mem_set i; rwa [show ((cfg0.win 2).blk t₀).view.emb i = i from emb2 t₀ i] at h⟩)

/-- The run, read at the program's own arrays. -/
theorem run_arrays : θ_run defs (onTc (τ := τ) (main (F := F))) ⟨m, fun _ => 0, ρ⟩ (fun r =>
    (∀ c : Dev nD, r.2.mem ((c : Thread nD τ).loc main_v1) = OUT m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨(h.1 c (2 : Fin 3)).trans (finalA_out m ρ c), (h.1 c (0 : Fin 3)).trans (finalA_x m ρ c),
    (h.1 c (1 : Fin 3)).trans (finalA_w m ρ c)⟩, h.2⟩) (run_main m ρ)

end Cert.KernelIdeal.Hand

end
-- ==== Proof.Result.lean ====
/- The kernel's result at the ideal values: device by device, its block of columns of the reference's. -/
module

public import proofs.«01_k».proof.Proof.Final
public import proofs.«01_k».proof.Proof.Gen.ReferenceIdeal.Run
public import Idealize.ShloMosaic.Lib.Layout
public import Idealize.ShloMosaic.PureOps.Ideal
public import Idealize.ShloMosaic.Lib.Pointwise

@[expose] public section

set_option maxRecDepth 16384

noncomputable section

namespace Cert.KernelIdeal.Hand

open Cert.KernelIdeal Cert.KernelIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A whole argument. -/
abbrev Wh := (⟨2, ![2048, 2048]⟩ : Shape).Idx → Elt Ideal .bf16

/-- The reference's term, entry by entry: the product's row by column sum, cut off below at zero. -/
def refOut (X W : Wh) : (⟨2, ![2048, 2048]⟩ : Shape).Idx → Elt Ideal .f32 :=
  maximumf (extf .f32 (truncf .bf16 (Host.dotGeneral (F := Ideal) (φ₁ := .bf16) (φ₂ := .bf16) Cert.ReferenceIdeal.dot_S2048x2048_S2048x2048_S2048x2048_1_0_0_1_n_n none X W) Cert.ReferenceIdeal.Gen.bitsLt_bf16_f32) Cert.ReferenceIdeal.Gen.bitsLt_bf16_f32)
    (broadcastInDim Cert.ReferenceIdeal.S2048x2048 ![] Cert.ReferenceIdeal.Gen.bcast_S_S2048x2048 (constant Cert.ReferenceIdeal.S_ .f32 0x00000000#32))

/-- An element of the reference: the positive part of a sum of products. -/
theorem refOut_apply (X W : Wh) (r c : Fin 2048) : refOut X W (ix2 r c) = max (∑ k : Fin 2048, X (ix2 r k) * W (ix2 k c)) (0 : EReal) := by
  unfold refOut
  pointwise

/-- An element of a chunk's product: the positive part of a sum of products. -/
theorem pay7_apply (A : Vec Ideal S256x2048 .bf16) (B : Vec Ideal S2048x256 .bf16) (r c : Fin 256) :
    k0_pay7 A B (ix2 r c) = max (∑ k : Fin 2048, A (ix2 r k) * B (ix2 k c)) (0 : EReal) := by
  pointwise [k0_pay7]

/-- An element of a quarter's product, likewise. -/
theorem pay13_apply (A : Vec Ideal S64x2048 .bf16) (B : Vec Ideal S2048x256 .bf16) (r : Fin 64) (c : Fin 256) :
    k0_pay13 A B (ix2 r c) = max (∑ k : Fin 2048, A (ix2 r k) * B (ix2 k c)) (0 : EReal) := by
  pointwise [k0_pay13]

/-- Storing the weights changes nothing at the ideal values. -/
theorem pay6_eq (w : Vec Ideal S2048x256 .bf16) : k0_pay6 w = w := by
  funext j; pointwise [k0_pay6]

/-- Eight blocks of rows make up the first argument. -/
theorem tiles_rows : Layout.Tiles ⟨2, ![256, 2048]⟩ ⟨2, ![2048, 2048]⟩ 0 8 := by decide
/-- Eight blocks of columns make up the second argument. -/
theorem tiles_cols : Layout.Tiles ⟨2, ![2048, 256]⟩ ⟨2, ![2048, 2048]⟩ 1 8 := by decide

section
variable (m : (ℓ : Loc nD τ sig) → Buf (Elt Ideal) ℓ) (X W : Wh)
  (hX : ∀ c : Dev nD, m ((c : Thread nD τ).loc main_arg0) = Layout.block ⟨2, ![256, 2048]⟩ ⟨2, ![2048, 2048]⟩ 0 8 c X tiles_rows)
  (hW : ∀ c : Dev nD, m ((c : Thread nD τ).loc main_arg1) = Layout.block ⟨2, ![2048, 256]⟩ ⟨2, ![2048, 2048]⟩ 1 8 c W tiles_cols)
include hX in
/-- What the gathered buffer ends up holding is the whole first argument. -/
theorem xat_eq (r k : Fin 2048) : xat m r.val k.val = X (ix2 r k) := by
  unfold xat
  rw [xst_eq, hX, Layout.block_apply]
  congr 1
  funext a
  refine Fin.ext ?_
  have hr := r.isLt
  have hk := k.isLt
  match a with
  | ⟨0, _⟩ => show r.val / 256 % 8 * 256 + r.val % 256 = r.val; omega
  | ⟨1, _⟩ => show k.val % 2048 = k.val; omega
include hW in
/-- Device `c`'s weights are its block of columns of the second argument. -/
theorem wbf_eq (c : Dev nD) (k : Fin 2048) (l : Fin 256) :
    wbf m c (ix2 k l) = W (ix2 k (⟨c.val * 256 + l.val, by have h : c.val < 8 := c.isLt; have := l.isLt; omega⟩ : Fin 2048)) := by
  unfold wbf
  rw [pay6_eq, wst_eq, hW, Layout.block_apply]
  congr 1
  funext a
  refine Fin.ext ?_
  match a with
  | ⟨0, _⟩ => rfl
  | ⟨1, _⟩ => rfl

include hX hW in
/-- Device `c`'s result is block `c`, along the columns, of the reference's. -/
theorem OUT_eq (c : Dev nD) : OUT m c = Layout.block ⟨2, ![2048, 256]⟩ ⟨2, ![2048, 2048]⟩ 1 8 c (refOut X W) tiles_cols := funext fun i => by
  obtain ⟨r, l, rfl⟩ : ∃ (r : Fin 2048) (l : Fin 256), i = ix2 r l := ⟨i 0, i 1, eq_ix2 i⟩
  have hr := r.isLt
  have hl := l.isLt
  have hc : c.val < 8 := c.isLt
  have hR : Layout.block ⟨2, ![2048, 256]⟩ ⟨2, ![2048, 2048]⟩ 1 8 c (refOut X W) tiles_cols (ix2 r l)
      = refOut X W (ix2 r (⟨c.val * 256 + l.val, by omega⟩ : Fin 2048)) := by
    rw [Layout.block_apply]
    congr 1
    funext a
    refine Fin.ext ?_
    match a with
    | ⟨0, _⟩ => rfl
    | ⟨1, _⟩ => rfl
  rw [hR, refOut_apply]
  have key (lo n : ℕ) (a : Fin n) (h : lo + a.val = r.val) (k : Fin 2048) : rowsOf m lo n (ix2 a k) = X (ix2 r k) := by
    unfold rowsOf
    show xat m (lo + a.val) k.val = _
    rw [h]; exact xat_eq m X hX r k
  have hsum : ∀ (n : ℕ) (lo : ℕ) (a : Fin n) (h : lo + a.val = r.val),
      max (∑ k : Fin 2048, rowsOf m lo n (ix2 a k) * wbf m c (ix2 k l)) (0 : EReal)
        = max (∑ k : Fin 2048, X (ix2 r k) * W (ix2 k (⟨c.val * 256 + l.val, by omega⟩ : Fin 2048))) (0 : EReal) := fun n lo a h => by
    congr 1
    exact Finset.sum_congr rfl fun k _ => by rw [key lo n a h k, wbf_eq m W hW c k l]
  have hle : l.val % 256 = l.val := Nat.mod_eq_of_lt hl
  unfold OUT
  split
  · have hi : ix (d := ![64, 256]) (by decide) ((ix2 r l 0).val % 64) (ix2 r l 1).val = ix2 (⟨r.val % 64, Nat.mod_lt _ (by decide)⟩ : Fin 64) l :=
      ix_self _ _ _ _ rfl rfl
    rw [hi, pay13_apply]
    exact hsum 64 (64 * (r.val / 64)) ⟨r.val % 64, Nat.mod_lt _ (by decide)⟩ (Nat.div_add_mod r.val 64)
  · have hi : ix (d := ![256, 256]) (by decide) ((ix2 r l 0).val % 256) (ix2 r l 1).val = ix2 (⟨r.val % 256, Nat.mod_lt _ (by decide)⟩ : Fin 256) l :=
      ix_self _ _ _ _ rfl rfl
    rw [hi, pay7_apply]
    exact hsum 256 (256 * (r.val / 256)) ⟨r.val % 256, Nat.mod_lt _ (by decide)⟩ (Nat.div_add_mod r.val 256)
end

end Cert.KernelIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.PlainFinal
public import proofs.«01_k».proof.Proof.Final
public import proofs.«01_k».proof.Proof.Result
public import Idealize.ShloMosaic.Adequacy
public import Idealize.ShloMosaic.Init
public import Idealize.ShloMosaic.Lib.Claim

@[expose] public section

noncomputable section

namespace Cert.Proof

open Idealize.ShloMosaic Idealize.SL.Sem

/-- The kernel as printed runs, keeps its arguments and ends with every counter at zero. -/
theorem frame_kernel : Cert.quiescent_Kernel (hKernel := Cert.Kernel.Gen.facts) := fun m g _ =>
  (θ_run _ _ _).mono (fun _ h => ⟨fun c => (h.1 c).2, h.2⟩) (Cert.Kernel.Hand.run_arrays (F := Bits) m g)

/-- So does its reading at the ideal values, -/
theorem frame_ideal : Cert.quiescent_KernelIdeal (hKernelIdeal := Cert.KernelIdeal.Gen.facts) := fun m g _ =>
  (θ_run _ _ _).mono (fun _ h => ⟨fun c => (h.1 c).2, h.2⟩) (Cert.KernelIdeal.Hand.run_arrays (F := Ideal) m g)

/-- and the reference. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- Every device's result is its block of columns of what the reference computes. -/
theorem value : Cert.algebraic_KernelIdeal_ReferenceIdeal (hKernelIdeal := Cert.KernelIdeal.Gen.facts) (hReferenceIdeal := Cert.ReferenceIdeal.Gen.facts) :=
  fun m g m' g' _ h =>
    ⟨Cert.KernelIdeal.Hand.refOut (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)),
      (θ_run _ _ _).mono (fun _ hr c => ⟨(hr.1 c).1.trans (Cert.KernelIdeal.Hand.OUT_eq m _ _ (fun c => (h c).1) (fun c => (h c).2) c), (hr.1 c).2⟩)
        (Cert.KernelIdeal.Hand.run_arrays (F := Ideal) m g),
      (θ_run _ _ _).mono (fun _ hr => hr 0) (Cert.ReferenceIdeal.Value.run (F := Ideal) m' g')⟩

theorem claim : Cert.Claim :=
  ⟨Cert.Kernel.Gen.facts, Cert.KernelIdeal.Gen.facts, Cert.ReferenceIdeal.Gen.facts, frame_kernel, frame_ideal, frame_reference, trivial, value⟩

end Cert.Proof

end
